-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v237)) (v1 : (c : Dev Cert.KernelIdeal.nD) → Buf (Elt Ideal) ((c.tc : Thread Cert.KernelIdeal.nD Cert.KernelIdeal.τ).loc Cert.KernelIdeal.main_v238)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v237) = v0 c
          ∧ r.2.mem ((c.tc : Thread Cert.KernelIdeal.nD Cert.KernelIdeal.τ).loc Cert.KernelIdeal.main_v238) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v457) = v0 c
          ∧ r.2.mem ((c.tc : Thread Cert.ReferenceIdeal.nD Cert.ReferenceIdeal.τ).loc Cert.ReferenceIdeal.main_v463) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S24000 : Shape := ⟨1, ![24000]⟩
abbrev S5600 : Shape := ⟨1, ![5600]⟩
abbrev S2240 : Shape := ⟨1, ![2240]⟩
abbrev S96000 : Shape := ⟨1, ![96000]⟩
abbrev S48000 : Shape := ⟨1, ![48000]⟩
abbrev S15000x256 : Shape := ⟨2, ![15000, 256]⟩
abbrev S50x512 : Shape := ⟨2, ![50, 512]⟩
abbrev S512x256 : Shape := ⟨2, ![512, 256]⟩
abbrev S512 : Shape := ⟨1, ![512]⟩
abbrev S2x5x512x512 : Shape := ⟨4, ![2, 5, 512, 512]⟩
abbrev S2x5x512 : Shape := ⟨3, ![2, 5, 512]⟩
abbrev S2x512x512 : Shape := ⟨3, ![2, 512, 512]⟩
abbrev S2x512 : Shape := ⟨2, ![2, 512]⟩
abbrev S1x512 : Shape := ⟨2, ![1, 512]⟩
abbrev S1 : Shape := ⟨1, ![1]⟩
abbrev S16 : Shape := ⟨1, ![16]⟩
abbrev S1x5x512 : Shape := ⟨3, ![1, 5, 512]⟩
abbrev S_ : Shape := ⟨0, ![]⟩

class Facts : Prop where
  slices_S2x5x512_S1x5x512_0_0_0 : S2x5x512.Slices ![0, 0, 0] S1x5x512
  bcast_S_S96000 : S_.BroadcastsInDim S96000 (![] : Fin 0 → Fin S96000.rank)
  bcast_S_S48000 : S_.BroadcastsInDim S48000 (![] : Fin 0 → Fin S48000.rank)
  bcast_S_S24000 : S_.BroadcastsInDim S24000 (![] : Fin 0 → Fin S24000.rank)
  bcast_S_S15000x256 : S_.BroadcastsInDim S15000x256 (![] : Fin 0 → Fin S15000x256.rank)
  bcast_S_S50x512 : S_.BroadcastsInDim S50x512 (![] : Fin 0 → Fin S50x512.rank)
  bcast_S_S512x256 : S_.BroadcastsInDim S512x256 (![] : Fin 0 → Fin S512x256.rank)
  bcast_S_S512 : S_.BroadcastsInDim S512 (![] : Fin 0 → Fin S512.rank)
  bcast_S_S2x5x512x512 : S_.BroadcastsInDim S2x5x512x512 (![] : Fin 0 → Fin S2x5x512x512.rank)
  bcast_S_S1x5x512 : S_.BroadcastsInDim S1x5x512 (![] : Fin 0 → Fin S1x5x512.rank)
  bcast_S_S2240 : S_.BroadcastsInDim S2240 (![] : Fin 0 → Fin S2240.rank)

variable [Facts]

def fn_part1 {F : FTy → Type} [FloatOps F] (main_arg2 : IVec S2240 32) (main_arg21 : FVec F S512 .f32) (main_arg22 : FVec F S2x5x512x512 .f32) (main_v0 : FVec F S1x5x512 .f32) (main_v3 : IVec S96000 1) (main_v6 : IVec S48000 1) (main_v9 : IVec S24000 1) (main_v12 : IVec S15000x256 1) (main_v15 : IVec S50x512 1) (main_v16 : FVec F S512x256 .f32) (main_v17 : FVec F S512x256 .f32) : IVec S2240 1 × IVec S96000 1 × IVec S48000 1 × IVec S24000 1 × IVec S15000x256 1 × IVec S50x512 1 × IVec S512x256 1 × IVec S512 1 × IVec S2x5x512x512 1 × IVec S1x5x512 1 :=
  let main_v18 : IVec S512x256 1 := cmpf .olt main_v16 main_v17
  let main_v19 : FVec F S512 .f32 := Host.absf main_arg21
  let main_cst_5 : FVec F S_ .f32 := constant S_ .f32 0x7F800000#32
  let main_v20 : FVec F S512 .f32 := broadcastInDim S512 ![] bcast_S_S512 main_cst_5
  let main_v21 : IVec S512 1 := cmpf .olt main_v19 main_v20
  let main_v22 : FVec F S2x5x512x512 .f32 := Host.absf main_arg22
  let main_cst_6 : FVec F S_ .f32 := constant S_ .f32 0x7F800000#32
  let main_v23 : FVec F S2x5x512x512 .f32 := broadcastInDim S2x5x512x512 ![] bcast_S_S2x5x512x512 main_cst_6
  let main_v24 : IVec S2x5x512x512 1 := cmpf .olt main_v22 main_v23
  let main_v25 : FVec F S1x5x512 .f32 := Host.absf main_v0
  let main_cst_7 : FVec F S_ .f32 := constant S_ .f32 0x7F800000#32
  let main_v26 : FVec F S1x5x512 .f32 := broadcastInDim S1x5x512 ![] bcast_S_S1x5x512 main_cst_7
  let main_v27 : IVec S1x5x512 1 := cmpf .olt main_v25 main_v26
  let main_v28 : IVec S2240 32 := iotaInDim S2240 32 0
  let main_c : IVec S_ 32 := constantI S_ 32 20#32
  let main_v29 : IVec S2240 32 := broadcastInDim S2240 ![] bcast_S_S2240 main_c
  let main_v30 : IVec S2240 32 := Host.divsi main_v28 main_v29
  let main_v31 : IVec S2240 1 := cmpi .eq main_arg2 main_v30
  (main_v31, main_v3, main_v6, main_v9, main_v12, main_v15, main_v18, main_v21, main_v24, main_v27)

def fn {F : FTy → Type} [FloatOps F] (main_arg0 : IVec S24000 32) (main_arg1 : IVec S5600 32) (main_arg2 : IVec S2240 32) (main_arg3 : IVec S96000 32) (main_arg4 : IVec S96000 32) (main_arg5 : IVec S48000 32) (main_arg6 : IVec S48000 32) (main_arg7 : IVec S48000 32) (main_arg8 : IVec S48000 32) (main_arg9 : IVec S24000 32) (main_arg10 : IVec S24000 32) (main_arg11 : IVec S24000 32) (main_arg12 : IVec S24000 32) (main_arg13 : FVec F S96000 .f32) (main_arg14 : FVec F S48000 .f32) (main_arg15 : FVec F S48000 .f32) (main_arg16 : FVec F S24000 .f32) (main_arg17 : FVec F S24000 .f32) (main_arg18 : FVec F S15000x256 .f32) (main_arg19 : FVec F S50x512 .f32) (main_arg20 : FVec F S512x256 .f32) (main_arg21 : FVec F S512 .f32) (main_arg22 : FVec F S2x5x512x512 .f32) (main_arg23 : FVec F S2x5x512 .f32) (main_arg24 : FVec F S2x512x512 .f32) (main_arg25 : FVec F S2x512x512 .f32) (main_arg26 : FVec F S2x512 .f32) (main_arg27 : FVec F S2x512 .f32) (main_arg28 : FVec F S1x512 .f32) (main_arg29 : FVec F S1 .f32) (main_arg30 : FVec F S16 .f32) : IVec S2240 1 × IVec S96000 1 × IVec S48000 1 × IVec S24000 1 × IVec S15000x256 1 × IVec S50x512 1 × IVec S512x256 1 × IVec S512 1 × IVec S2x5x512x512 1 × IVec S1x5x512 1 :=
  let main_v0 : FVec F S1x5x512 .f32 := (extractStridedSlice S1x5x512 ![0, 0, 0] · slices_S2x5x512_S1x5x512_0_0_0) main_arg23
  let main_v1 : FVec F S96000 .f32 := Host.absf main_arg13
  let main_cst : FVec F S_ .f32 := constant S_ .f32 0x7F800000#32
  let main_v2 : FVec F S96000 .f32 := broadcastInDim S96000 ![] bcast_S_S96000 main_cst
  let main_v3 : IVec S96000 1 := cmpf .olt main_v1 main_v2
  let main_v4 : FVec F S48000 .f32 := Host.absf main_arg14
  let main_cst_0 : FVec F S_ .f32 := constant S_ .f32 0x7F800000#32
  let main_v5 : FVec F S48000 .f32 := broadcastInDim S48000 ![] bcast_S_S48000 main_cst_0
  let main_v6 : IVec S48000 1 := cmpf .olt main_v4 main_v5
  let main_v7 : FVec F S24000 .f32 := Host.absf main_arg17
  let main_cst_1 : FVec F S_ .f32 := constant S_ .f32 0x7F800000#32
  let main_v8 : FVec F S24000 .f32 := broadcastInDim S24000 ![] bcast_S_S24000 main_cst_1
  let main_v9 : IVec S24000 1 := cmpf .olt main_v7 main_v8
  let main_v10 : FVec F S15000x256 .f32 := Host.absf main_arg18
  let main_cst_2 : FVec F S_ .f32 := constant S_ .f32 0x7F800000#32
  let main_v11 : FVec F S15000x256 .f32 := broadcastInDim S15000x256 ![] bcast_S_S15000x256 main_cst_2
  let main_v12 : IVec S15000x256 1 := cmpf .olt main_v10 main_v11
  let main_v13 : FVec F S50x512 .f32 := Host.absf main_arg19
  let main_cst_3 : FVec F S_ .f32 := constant S_ .f32 0x7F800000#32
  let main_v14 : FVec F S50x512 .f32 := broadcastInDim S50x512 ![] bcast_S_S50x512 main_cst_3
  let main_v15 : IVec S50x512 1 := cmpf .olt main_v13 main_v14
  let main_v16 : FVec F S512x256 .f32 := Host.absf main_arg20
  let main_cst_4 : FVec F S_ .f32 := constant S_ .f32 0x7F800000#32
  let main_v17 : FVec F S512x256 .f32 := broadcastInDim S512x256 ![] bcast_S_S512x256 main_cst_4
  fn_part1 (F := F) main_arg2 main_arg21 main_arg22 main_v0 main_v3 main_v6 main_v9 main_v12 main_v15 main_v16 main_v17
-- ==== Kernel.lean ====
abbrev S24000 : Shape := ⟨1, ![24000]⟩
abbrev S5600 : Shape := ⟨1, ![5600]⟩
abbrev S2240 : Shape := ⟨1, ![2240]⟩
abbrev S96000 : Shape := ⟨1, ![96000]⟩
abbrev S48000 : Shape := ⟨1, ![48000]⟩
abbrev S15000x256 : Shape := ⟨2, ![15000, 256]⟩
abbrev S50x512 : Shape := ⟨2, ![50, 512]⟩
abbrev S512x256 : Shape := ⟨2, ![512, 256]⟩
abbrev S512 : Shape := ⟨1, ![512]⟩
abbrev S2x5x512x512 : Shape := ⟨4, ![2, 5, 512, 512]⟩
abbrev S2x5x512 : Shape := ⟨3, ![2, 5, 512]⟩
abbrev S2x512x512 : Shape := ⟨3, ![2, 512, 512]⟩
abbrev S2x512 : Shape := ⟨2, ![2, 512]⟩
abbrev S1x512 : Shape := ⟨2, ![1, 512]⟩
abbrev S1 : Shape := ⟨1, ![1]⟩
abbrev S16 : Shape := ⟨1, ![16]⟩
abbrev S1x1x512x512 : Shape := ⟨4, ![1, 1, 512, 512]⟩
abbrev S512x512 : Shape := ⟨2, ![512, 512]⟩
abbrev S1x1x512 : Shape := ⟨3, ![1, 1, 512]⟩
abbrev S_ : Shape := ⟨0, ![]⟩
abbrev S24000x1 : Shape := ⟨2, ![24000, 1]⟩
abbrev S24000x256 : Shape := ⟨2, ![24000, 256]⟩
abbrev S256x512 : Shape := ⟨2, ![256, 512]⟩
abbrev S24576x256 : Shape := ⟨2, ![24576, 256]⟩
abbrev S24576x512 : Shape := ⟨2, ![24576, 512]⟩
abbrev S2048x256 : Shape := ⟨2, ![2048, 256]⟩
abbrev S2048x512 : Shape := ⟨2, ![2048, 512]⟩
abbrev S24000x512 : Shape := ⟨2, ![24000, 512]⟩
abbrev S5600x1 : Shape := ⟨2, ![5600, 1]⟩
abbrev S5600x512 : Shape := ⟨2, ![5600, 512]⟩
abbrev S6144x512 : Shape := ⟨2, ![6144, 512]⟩
abbrev S96000x1 : Shape := ⟨2, ![96000, 1]⟩
abbrev S96000x512 : Shape := ⟨2, ![96000, 512]⟩
abbrev S48000x1 : Shape := ⟨2, ![48000, 1]⟩
abbrev S48000x512 : Shape := ⟨2, ![48000, 512]⟩
abbrev S2240x512 : Shape := ⟨2, ![2240, 512]⟩
abbrev S2240x1 : Shape := ⟨2, ![2240, 1]⟩
abbrev S1x512x512 : Shape := ⟨3, ![1, 512, 512]⟩
abbrev S512x1 : Shape := ⟨2, ![512, 1]⟩
abbrev S1x1 : Shape := ⟨2, ![1, 1]⟩
abbrev S1x16 : Shape := ⟨2, ![1, 16]⟩
abbrev S16x1 : Shape := ⟨2, ![16, 1]⟩
abbrev S112x20x512 : Shape := ⟨3, ![112, 20, 512]⟩
abbrev S112x512 : Shape := ⟨2, ![112, 512]⟩
abbrev S16x7x512 : Shape := ⟨3, ![16, 7, 512]⟩
abbrev S16x512 : Shape := ⟨2, ![16, 512]⟩
abbrev S16x1x512 : Shape := ⟨3, ![16, 1, 512]⟩

abbrev nBuf : Space → Nat
  | .hbm => 313
  | .vmem => 38
  | .smem => 0
  | _ => 0

abbrev hbmTy0_0 (i : Nat) : BufTy := match i % 128 with
  | 0 => ⟨S24000, .i32⟩
  | 1 => ⟨S5600, .i32⟩
  | 2 => ⟨S2240, .i32⟩
  | 3 => ⟨S96000, .i32⟩
  | 4 => ⟨S96000, .i32⟩
  | 5 => ⟨S48000, .i32⟩
  | 6 => ⟨S48000, .i32⟩
  | 7 => ⟨S48000, .i32⟩
  | 8 => ⟨S48000, .i32⟩
  | 9 => ⟨S24000, .i32⟩
  | 10 => ⟨S24000, .i32⟩
  | 11 => ⟨S24000, .i32⟩
  | 12 => ⟨S24000, .i32⟩
  | 13 => ⟨S96000, .f32⟩
  | 14 => ⟨S48000, .f32⟩
  | 15 => ⟨S48000, .f32⟩
  | 16 => ⟨S24000, .f32⟩
  | 17 => ⟨S24000, .f32⟩
  | 18 => ⟨S15000x256, .f32⟩
  | 19 => ⟨S50x512, .f32⟩
  | 20 => ⟨S512x256, .f32⟩
  | 21 => ⟨S512, .f32⟩
  | 22 => ⟨S2x5x512x512, .f32⟩
  | 23 => ⟨S2x5x512, .f32⟩
  | 24 => ⟨S2x512x512, .f32⟩
  | 25 => ⟨S2x512x512, .f32⟩
  | 26 => ⟨S2x512, .f32⟩
  | 27 => ⟨S2x512, .f32⟩
  | 28 => ⟨S1x512, .f32⟩
  | 29 => ⟨S1, .f32⟩
  | 30 => ⟨S16, .f32⟩
  | 31 => ⟨S1x1x512x512, .f32⟩
  | 32 => ⟨S512x512, .f32⟩
  | 33 => ⟨S1x1x512x512, .f32⟩
  | 34 => ⟨S512x512, .f32⟩
  | 35 => ⟨S1x1x512x512, .f32⟩
  | 36 => ⟨S512x512, .f32⟩
  | 37 => ⟨S1x1x512, .f32⟩
  | 38 => ⟨S512, .f32⟩
  | 39 => ⟨S1x1x512, .f32⟩
  | 40 => ⟨S512, .f32⟩
  | 41 => ⟨S1x1x512, .f32⟩
  | 42 => ⟨S512, .f32⟩
  | 43 => ⟨S512x256, .f32⟩
  | 44 => ⟨S512x512, .f32⟩
  | 45 => ⟨S512, .f32⟩
  | 46 => ⟨S512, .f32⟩
  | 47 => ⟨S512x256, .f32⟩
  | 48 => ⟨S512x512, .f32⟩
  | 49 => ⟨S512, .f32⟩
  | 50 => ⟨S512, .f32⟩
  | 51 => ⟨S512x256, .f32⟩
  | 52 => ⟨S512x512, .f32⟩
  | 53 => ⟨S512, .f32⟩
  | 54 => ⟨S512, .f32⟩
  | 55 => ⟨S1x1x512x512, .f32⟩
  | 56 => ⟨S512x512, .f32⟩
  | 57 => ⟨S1x1x512x512, .f32⟩
  | 58 => ⟨S512x512, .f32⟩
  | 59 => ⟨S1x1x512, .f32⟩
  | 60 => ⟨S512, .f32⟩
  | 61 => ⟨S1x1x512, .f32⟩
  | 62 => ⟨S512, .f32⟩
  | 63 => ⟨S512x512, .f32⟩
  | 64 => ⟨S512x512, .f32⟩
  | 65 => ⟨S512, .f32⟩
  | 66 => ⟨S512, .f32⟩
  | 67 => ⟨S1x1x512x512, .f32⟩
  | 68 => ⟨S512x512, .f32⟩
  | 69 => ⟨S1x1x512x512, .f32⟩
  | 70 => ⟨S512x512, .f32⟩
  | 71 => ⟨S1x1x512x512, .f32⟩
  | 72 => ⟨S512x512, .f32⟩
  | 73 => ⟨S1x1x512, .f32⟩
  | 74 => ⟨S512, .f32⟩
  | 75 => ⟨S1x1x512, .f32⟩
  | 76 => ⟨S512, .f32⟩
  | 77 => ⟨S1x1x512, .f32⟩
  | 78 => ⟨S512, .f32⟩
  | 79 => ⟨S512x512, .f32⟩
  | 80 => ⟨S512x512, .f32⟩
  | 81 => ⟨S512, .f32⟩
  | 82 => ⟨S512, .f32⟩
  | 83 => ⟨S512x512, .f32⟩
  | 84 => ⟨S512x512, .f32⟩
  | 85 => ⟨S512, .f32⟩
  | 86 => ⟨S512, .f32⟩
  | 87 => ⟨S1x1x512x512, .f32⟩
  | 88 => ⟨S512x512, .f32⟩
  | 89 => ⟨S1x1x512x512, .f32⟩
  | 90 => ⟨S512x512, .f32⟩
  | 91 => ⟨S1x1x512, .f32⟩
  | 92 => ⟨S512, .f32⟩
  | 93 => ⟨S1x1x512, .f32⟩
  | 94 => ⟨S512, .f32⟩
  | 95 => ⟨S512x512, .f32⟩
  | 96 => ⟨S512x512, .f32⟩
  | 97 => ⟨S512, .f32⟩
  | 98 => ⟨S512, .f32⟩
  | 99 => ⟨S_, .i32⟩
  | 100 => ⟨S24000, .i32⟩
  | 101 => ⟨S24000, .i1⟩
  | 102 => ⟨S_, .i32⟩
  | 103 => ⟨S24000, .i32⟩
  | 104 => ⟨S24000, .i32⟩
  | 105 => ⟨S24000, .i32⟩
  | 106 => ⟨S24000x1, .i32⟩
  | 107 => ⟨S24000x256, .f32⟩
  | 108 => ⟨S256x512, .f32⟩
  | 109 => ⟨S_, .i32⟩
  | 110 => ⟨S_, .f32⟩
  | 111 => ⟨S24576x256, .f32⟩
  | 112 => ⟨S1x512, .f32⟩
  | 113 => ⟨S24576x512, .f32⟩
  | 114 => ⟨S24000x512, .f32⟩
  | 115 => ⟨S_, .i32⟩
  | 116 => ⟨S5600, .i32⟩
  | 117 => ⟨S5600, .i1⟩
  | 118 => ⟨S_, .i32⟩
  | 119 => ⟨S5600, .i32⟩
  | 120 => ⟨S5600, .i32⟩
  | 121 => ⟨S5600, .i32⟩
  | 122 => ⟨S5600x1, .i32⟩
  | 123 => ⟨S5600x512, .f32⟩
  | 124 => ⟨S512x512, .f32⟩
  | 125 => ⟨S_, .i32⟩
  | 126 => ⟨S_, .f32⟩
  | 127 => ⟨S6144x512, .f32⟩
  | _ => ⟨S24000, .i32⟩

abbrev hbmTy0_1 (i : Nat) : BufTy := match i % 128 with
  | 0 => ⟨S1x512, .f32⟩
  | 1 => ⟨S6144x512, .f32⟩
  | 2 => ⟨S5600x512, .f32⟩
  | 3 => ⟨S_, .i32⟩
  | 4 => ⟨S96000, .i32⟩
  | 5 => ⟨S96000, .i1⟩
  | 6 => ⟨S_, .i32⟩
  | 7 => ⟨S96000, .i32⟩
  | 8 => ⟨S96000, .i32⟩
  | 9 => ⟨S96000, .i32⟩
  | 10 => ⟨S96000x1, .i32⟩
  | 11 => ⟨S96000x512, .f32⟩
  | 12 => ⟨S96000x1, .f32⟩
  | 13 => ⟨S96000x512, .f32⟩
  | 14 => ⟨S96000x512, .f32⟩
  | 15 => ⟨S_, .f32⟩
  | 16 => ⟨S24000x512, .f32⟩
  | 17 => ⟨S96000x1, .i32⟩
  | 18 => ⟨S24000x512, .f32⟩
  | 19 => ⟨S_, .f32⟩
  | 20 => ⟨S96000x1, .f32⟩
  | 21 => ⟨S_, .f32⟩
  | 22 => ⟨S24000x1, .f32⟩
  | 23 => ⟨S96000x1, .i32⟩
  | 24 => ⟨S24000x1, .f32⟩
  | 25 => ⟨S_, .f32⟩
  | 26 => ⟨S24000x1, .f32⟩
  | 27 => ⟨S24000x1, .f32⟩
  | 28 => ⟨S24000x512, .f32⟩
  | 29 => ⟨S24000x512, .f32⟩
  | 30 => ⟨S_, .i32⟩
  | 31 => ⟨S48000, .i32⟩
  | 32 => ⟨S48000, .i1⟩
  | 33 => ⟨S_, .i32⟩
  | 34 => ⟨S48000, .i32⟩
  | 35 => ⟨S48000, .i32⟩
  | 36 => ⟨S48000, .i32⟩
  | 37 => ⟨S48000x1, .i32⟩
  | 38 => ⟨S48000x512, .f32⟩
  | 39 => ⟨S48000x1, .f32⟩
  | 40 => ⟨S48000x512, .f32⟩
  | 41 => ⟨S48000x512, .f32⟩
  | 42 => ⟨S_, .f32⟩
  | 43 => ⟨S5600x512, .f32⟩
  | 44 => ⟨S48000x1, .i32⟩
  | 45 => ⟨S5600x512, .f32⟩
  | 46 => ⟨S_, .f32⟩
  | 47 => ⟨S48000x1, .f32⟩
  | 48 => ⟨S_, .f32⟩
  | 49 => ⟨S5600x1, .f32⟩
  | 50 => ⟨S48000x1, .i32⟩
  | 51 => ⟨S5600x1, .f32⟩
  | 52 => ⟨S_, .f32⟩
  | 53 => ⟨S5600x1, .f32⟩
  | 54 => ⟨S5600x1, .f32⟩
  | 55 => ⟨S5600x512, .f32⟩
  | 56 => ⟨S5600x512, .f32⟩
  | 57 => ⟨S_, .i32⟩
  | 58 => ⟨S24000, .i32⟩
  | 59 => ⟨S24000, .i1⟩
  | 60 => ⟨S_, .i32⟩
  | 61 => ⟨S24000, .i32⟩
  | 62 => ⟨S24000, .i32⟩
  | 63 => ⟨S24000, .i32⟩
  | 64 => ⟨S24000x1, .i32⟩
  | 65 => ⟨S24000x512, .f32⟩
  | 66 => ⟨S24000x1, .f32⟩
  | 67 => ⟨S24000x512, .f32⟩
  | 68 => ⟨S24000x512, .f32⟩
  | 69 => ⟨S_, .f32⟩
  | 70 => ⟨S5600x512, .f32⟩
  | 71 => ⟨S24000x1, .i32⟩
  | 72 => ⟨S5600x512, .f32⟩
  | 73 => ⟨S_, .f32⟩
  | 74 => ⟨S24000x1, .f32⟩
  | 75 => ⟨S_, .f32⟩
  | 76 => ⟨S5600x1, .f32⟩
  | 77 => ⟨S24000x1, .i32⟩
  | 78 => ⟨S5600x1, .f32⟩
  | 79 => ⟨S_, .f32⟩
  | 80 => ⟨S5600x1, .f32⟩
  | 81 => ⟨S5600x1, .f32⟩
  | 82 => ⟨S5600x512, .f32⟩
  | 83 => ⟨S5600x512, .f32⟩
  | 84 => ⟨S5600x512, .f32⟩
  | 85 => ⟨S512x512, .f32⟩
  | 86 => ⟨S_, .i32⟩
  | 87 => ⟨S_, .f32⟩
  | 88 => ⟨S24576x512, .f32⟩
  | 89 => ⟨S1x512, .f32⟩
  | 90 => ⟨S24576x512, .f32⟩
  | 91 => ⟨S24000x512, .f32⟩
  | 92 => ⟨S512x512, .f32⟩
  | 93 => ⟨S_, .i32⟩
  | 94 => ⟨S_, .f32⟩
  | 95 => ⟨S6144x512, .f32⟩
  | 96 => ⟨S1x512, .f32⟩
  | 97 => ⟨S6144x512, .f32⟩
  | 98 => ⟨S5600x512, .f32⟩
  | 99 => ⟨S_, .i32⟩
  | 100 => ⟨S48000, .i32⟩
  | 101 => ⟨S48000, .i1⟩
  | 102 => ⟨S_, .i32⟩
  | 103 => ⟨S48000, .i32⟩
  | 104 => ⟨S48000, .i32⟩
  | 105 => ⟨S48000, .i32⟩
  | 106 => ⟨S48000x1, .i32⟩
  | 107 => ⟨S48000x512, .f32⟩
  | 108 => ⟨S48000x1, .f32⟩
  | 109 => ⟨S48000x512, .f32⟩
  | 110 => ⟨S48000x512, .f32⟩
  | 111 => ⟨S_, .f32⟩
  | 112 => ⟨S2240x512, .f32⟩
  | 113 => ⟨S48000x1, .i32⟩
  | 114 => ⟨S2240x512, .f32⟩
  | 115 => ⟨S_, .f32⟩
  | 116 => ⟨S48000x1, .f32⟩
  | 117 => ⟨S_, .f32⟩
  | 118 => ⟨S2240x1, .f32⟩
  | 119 => ⟨S48000x1, .i32⟩
  | 120 => ⟨S2240x1, .f32⟩
  | 121 => ⟨S_, .f32⟩
  | 122 => ⟨S2240x1, .f32⟩
  | 123 => ⟨S2240x1, .f32⟩
  | 124 => ⟨S2240x512, .f32⟩
  | 125 => ⟨S2240x512, .f32⟩
  | 126 => ⟨S_, .i32⟩
  | 127 => ⟨S24000, .i32⟩
  | _ => ⟨S24000, .i32⟩

abbrev hbmTy0_2 (i : Nat) : BufTy := match i % 128 with
  | 0 => ⟨S24000, .i1⟩
  | 1 => ⟨S_, .i32⟩
  | 2 => ⟨S24000, .i32⟩
  | 3 => ⟨S24000, .i32⟩
  | 4 => ⟨S24000, .i32⟩
  | 5 => ⟨S24000x1, .i32⟩
  | 6 => ⟨S24000x512, .f32⟩
  | 7 => ⟨S24000x1, .f32⟩
  | 8 => ⟨S24000x512, .f32⟩
  | 9 => ⟨S24000x512, .f32⟩
  | 10 => ⟨S_, .f32⟩
  | 11 => ⟨S2240x512, .f32⟩
  | 12 => ⟨S24000x1, .i32⟩
  | 13 => ⟨S2240x512, .f32⟩
  | 14 => ⟨S_, .f32⟩
  | 15 => ⟨S24000x1, .f32⟩
  | 16 => ⟨S_, .f32⟩
  | 17 => ⟨S2240x1, .f32⟩
  | 18 => ⟨S24000x1, .i32⟩
  | 19 => ⟨S2240x1, .f32⟩
  | 20 => ⟨S_, .f32⟩
  | 21 => ⟨S2240x1, .f32⟩
  | 22 => ⟨S2240x1, .f32⟩
  | 23 => ⟨S2240x512, .f32⟩
  | 24 => ⟨S2240x512, .f32⟩
  | 25 => ⟨S2240x512, .f32⟩
  | 26 => ⟨S1x512x512, .f32⟩
  | 27 => ⟨S512x512, .f32⟩
  | 28 => ⟨S512x512, .f32⟩
  | 29 => ⟨S1x512x512, .f32⟩
  | 30 => ⟨S512x512, .f32⟩
  | 31 => ⟨S512x512, .f32⟩
  | 32 => ⟨S1x512, .f32⟩
  | 33 => ⟨S512, .f32⟩
  | 34 => ⟨S1x512, .f32⟩
  | 35 => ⟨S1x512, .f32⟩
  | 36 => ⟨S512, .f32⟩
  | 37 => ⟨S1x512, .f32⟩
  | 38 => ⟨S1x512x512, .f32⟩
  | 39 => ⟨S512x512, .f32⟩
  | 40 => ⟨S512x512, .f32⟩
  | 41 => ⟨S1x512x512, .f32⟩
  | 42 => ⟨S512x512, .f32⟩
  | 43 => ⟨S512x512, .f32⟩
  | 44 => ⟨S1x512, .f32⟩
  | 45 => ⟨S512, .f32⟩
  | 46 => ⟨S1x512, .f32⟩
  | 47 => ⟨S1x512, .f32⟩
  | 48 => ⟨S512, .f32⟩
  | 49 => ⟨S1x512, .f32⟩
  | 50 => ⟨S512x1, .f32⟩
  | 51 => ⟨S1x1, .f32⟩
  | 52 => ⟨S1x16, .f32⟩
  | 53 => ⟨S1x1, .f32⟩
  | 54 => ⟨S16x1, .f32⟩
  | 55 => ⟨S_, .f32⟩
  | 56 => ⟨S16, .f32⟩
  | _ => ⟨S24000, .i32⟩

abbrev hbmTy (i : Nat) : BufTy := match i / 128 with
  | 0 => hbmTy0_0 i
  | 1 => hbmTy0_1 i
  | 2 => hbmTy0_2 i
  | _ => ⟨S24000, .i32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S512x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S512x512, .f32⟩
  | .local _ .vmem, ⟨15, _⟩ => ⟨S1x512, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | .local _ .vmem, ⟨20, _⟩ => ⟨S512x512, .f32⟩
  | .local _ .vmem, ⟨21, _⟩ => ⟨S1x512, .f32⟩
  | .local _ .vmem, ⟨22, _⟩ => ⟨S2048x512, .f32⟩
  | .local _ .vmem, ⟨23, _⟩ => ⟨S2048x512, .f32⟩
  | .local _ .vmem, ⟨24, _⟩ => ⟨S2240x512, .f32⟩
  | .local _ .vmem, ⟨25, _⟩ => ⟨S512x512, .f32⟩
  | .local _ .vmem, ⟨26, _⟩ => ⟨S512x512, .f32⟩
  | .local _ .vmem, ⟨27, _⟩ => ⟨S1x512, .f32⟩
  | .local _ .vmem, ⟨28, _⟩ => ⟨S1x512, .f32⟩
  | .local _ .vmem, ⟨29, _⟩ => ⟨S512x512, .f32⟩
  | .local _ .vmem, ⟨30, _⟩ => ⟨S512x512, .f32⟩
  | .local _ .vmem, ⟨31, _⟩ => ⟨S1x512, .f32⟩
  | .local _ .vmem, ⟨32, _⟩ => ⟨S1x512, .f32⟩
  | .local _ .vmem, ⟨33, _⟩ => ⟨S512x1, .f32⟩
  | .local _ .vmem, ⟨34, _⟩ => ⟨S1x1, .f32⟩
  | .local _ .vmem, ⟨35, _⟩ => ⟨S1x16, .f32⟩
  | .local _ .vmem, ⟨36, _⟩ => ⟨S1x1, .f32⟩
  | .local _ .vmem, ⟨37, _⟩ => ⟨S16x1, .f32⟩
  | _, _ => ⟨S24000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c : Ref sig .tc := ⟨.hbm, 99, rfl⟩
abbrev main_v68 : Ref sig .tc := ⟨.hbm, 100, rfl⟩
abbrev main_v69 : Ref sig .tc := ⟨.hbm, 101, rfl⟩
abbrev main_c_0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_1 : Ref sig .tc := ⟨.hbm, 109, rfl⟩
abbrev main_call0_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_2 : Ref sig .tc := ⟨.hbm, 115, rfl⟩
abbrev main_v80 : Ref sig .tc := ⟨.hbm, 116, rfl⟩
abbrev main_v81 : Ref sig .tc := ⟨.hbm, 117, rfl⟩
abbrev main_c_3 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_4 : Ref sig .tc := ⟨.hbm, 125, rfl⟩
abbrev main_call1_v0 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_5 : Ref sig .tc := ⟨.hbm, 131, rfl⟩
abbrev main_v92 : Ref sig .tc := ⟨.hbm, 132, rfl⟩
abbrev main_v93 : Ref sig .tc := ⟨.hbm, 133, rfl⟩
abbrev main_c_6 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_7 : Ref sig .tc := ⟨.hbm, 147, rfl⟩
abbrev main_v105 : Ref sig .tc := ⟨.hbm, 148, rfl⟩
abbrev main_cst_8 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_9 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_10 : Ref sig .tc := ⟨.hbm, 158, rfl⟩
abbrev main_v113 : Ref sig .tc := ⟨.hbm, 159, rfl⟩
abbrev main_v114 : Ref sig .tc := ⟨.hbm, 160, rfl⟩
abbrev main_c_11 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_12 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_13 : Ref sig .tc := ⟨.hbm, 174, rfl⟩
abbrev main_v126 : Ref sig .tc := ⟨.hbm, 175, rfl⟩
abbrev main_cst_14 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_15 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_c_16 : Ref sig .tc := ⟨.hbm, 185, rfl⟩
abbrev main_v134 : Ref sig .tc := ⟨.hbm, 186, rfl⟩
abbrev main_v135 : Ref sig .tc := ⟨.hbm, 187, rfl⟩
abbrev main_c_17 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_18 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_19 : Ref sig .tc := ⟨.hbm, 201, rfl⟩
abbrev main_v147 : Ref sig .tc := ⟨.hbm, 202, rfl⟩
abbrev main_cst_20 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_21 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_c_22 : Ref sig .tc := ⟨.hbm, 214, rfl⟩
abbrev main_call2_v0 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_c_23 : Ref sig .tc := ⟨.hbm, 221, rfl⟩
abbrev main_call3_v0 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_c_24 : Ref sig .tc := ⟨.hbm, 227, rfl⟩
abbrev main_v166 : Ref sig .tc := ⟨.hbm, 228, rfl⟩
abbrev main_v167 : Ref sig .tc := ⟨.hbm, 229, rfl⟩
abbrev main_c_25 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_26 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_27 : Ref sig .tc := ⟨.hbm, 243, rfl⟩
abbrev main_v179 : Ref sig .tc := ⟨.hbm, 244, rfl⟩
abbrev main_cst_28 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_29 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_c_30 : Ref sig .tc := ⟨.hbm, 254, rfl⟩
abbrev main_v187 : Ref sig .tc := ⟨.hbm, 255, rfl⟩
abbrev main_v188 : Ref sig .tc := ⟨.hbm, 256, rfl⟩
abbrev main_c_31 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_cst_32 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_cst_33 : Ref sig .tc := ⟨.hbm, 270, rfl⟩
abbrev main_v200 : Ref sig .tc := ⟨.hbm, 271, rfl⟩
abbrev main_cst_34 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_cst_35 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236_0 : Ref sig .tc := ⟨.hbm, 309, rfl⟩
abbrev main_v236_1 : Ref sig .tc := ⟨.hbm, 310, rfl⟩
abbrev main_v237 : Ref sig .tc := ⟨.hbm, 311, rfl⟩
abbrev main_v238 : Ref sig .tc := ⟨.hbm, 312, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg7_0 : Ref sig .tc := ⟨.vmem, 31, rfl⟩
abbrev cc4_stg8_0 : Ref sig .tc := ⟨.vmem, 32, rfl⟩
abbrev cc4_stg9_0 : Ref sig .tc := ⟨.vmem, 33, rfl⟩
abbrev cc4_stg10_0 : Ref sig .tc := ⟨.vmem, 34, rfl⟩
abbrev cc4_stg11_0 : Ref sig .tc := ⟨.vmem, 35, rfl⟩
abbrev cc4_stg12_0 : Ref sig .tc := ⟨.vmem, 36, rfl⟩
abbrev cc4_stg13_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem6_0 : DmaSem sig := 30
abbrev cc4_sem7_0 : DmaSem sig := 31
abbrev cc4_sem8_0 : DmaSem sig := 32
abbrev cc4_sem9_0 : DmaSem sig := 33
abbrev cc4_sem10_0 : DmaSem sig := 34
abbrev cc4_sem11_0 : DmaSem sig := 35
abbrev cc4_sem12_0 : DmaSem sig := 36
abbrev cc4_sem13_0 : DmaSem sig := 37

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![3], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![3], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S2240x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S512x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S512x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S1x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S1x512 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S512x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev stage4_11 : Fin 1 → Memref sig .tc .vmem S1x16 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))

abbrev stage4_12 : Fin 1 → Memref sig .tc .vmem S1x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))

abbrev stage4_13 : Fin 1 → Memref sig .tc .vmem S16x1 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
-- ==== ReferenceIdeal.lean ====
abbrev S24000 : Shape := ⟨1, ![24000]⟩
abbrev S5600 : Shape := ⟨1, ![5600]⟩
abbrev S2240 : Shape := ⟨1, ![2240]⟩
abbrev S96000 : Shape := ⟨1, ![96000]⟩
abbrev S48000 : Shape := ⟨1, ![48000]⟩
abbrev S15000x256 : Shape := ⟨2, ![15000, 256]⟩
abbrev S50x512 : Shape := ⟨2, ![50, 512]⟩
abbrev S512x256 : Shape := ⟨2, ![512, 256]⟩
abbrev S512 : Shape := ⟨1, ![512]⟩
abbrev S2x5x512x512 : Shape := ⟨4, ![2, 5, 512, 512]⟩
abbrev S2x5x512 : Shape := ⟨3, ![2, 5, 512]⟩
abbrev S2x512x512 : Shape := ⟨3, ![2, 512, 512]⟩
abbrev S2x512 : Shape := ⟨2, ![2, 512]⟩
abbrev S1x512 : Shape := ⟨2, ![1, 512]⟩
abbrev S1 : Shape := ⟨1, ![1]⟩
abbrev S16 : Shape := ⟨1, ![16]⟩
abbrev S_ : Shape := ⟨0, ![]⟩
abbrev S24000x1 : Shape := ⟨2, ![24000, 1]⟩
abbrev S24000x256 : Shape := ⟨2, ![24000, 256]⟩
abbrev S256x512 : Shape := ⟨2, ![256, 512]⟩
abbrev S24000x512 : Shape := ⟨2, ![24000, 512]⟩
abbrev S5600x1 : Shape := ⟨2, ![5600, 1]⟩
abbrev S5600x512 : Shape := ⟨2, ![5600, 512]⟩
abbrev S1x5x512x512 : Shape := ⟨4, ![1, 5, 512, 512]⟩
abbrev S5x512x512 : Shape := ⟨3, ![5, 512, 512]⟩
abbrev S1x5x512 : Shape := ⟨3, ![1, 5, 512]⟩
abbrev S5x512 : Shape := ⟨2, ![5, 512]⟩
abbrev S1x512x512 : Shape := ⟨3, ![1, 512, 512]⟩
abbrev S512x512 : Shape := ⟨2, ![512, 512]⟩
abbrev S96000x1 : Shape := ⟨2, ![96000, 1]⟩
abbrev S96000x512 : Shape := ⟨2, ![96000, 512]⟩
abbrev S48000x1 : Shape := ⟨2, ![48000, 1]⟩
abbrev S48000x512 : Shape := ⟨2, ![48000, 512]⟩
abbrev S2240x512 : Shape := ⟨2, ![2240, 512]⟩
abbrev S2240x1 : Shape := ⟨2, ![2240, 1]⟩
abbrev S112 : Shape := ⟨1, ![112]⟩
abbrev S1x112 : Shape := ⟨2, ![1, 112]⟩
abbrev S2240x112 : Shape := ⟨2, ![2240, 112]⟩
abbrev S2240x112x1 : Shape := ⟨3, ![2240, 112, 1]⟩
abbrev S2240x1x512 : Shape := ⟨3, ![2240, 1, 512]⟩
abbrev S2240x112x512 : Shape := ⟨3, ![2240, 112, 512]⟩
abbrev S112x512 : Shape := ⟨2, ![112, 512]⟩
abbrev S16x7x512 : Shape := ⟨3, ![16, 7, 512]⟩
abbrev S16x1x512 : Shape := ⟨3, ![16, 1, 512]⟩
abbrev S16x512 : Shape := ⟨2, ![16, 512]⟩
abbrev S512x1 : Shape := ⟨2, ![512, 1]⟩
abbrev S16x1 : Shape := ⟨2, ![16, 1]⟩
abbrev S1x1 : Shape := ⟨2, ![1, 1]⟩

abbrev nBuf : Space → Nat
  | .hbm => 545
  | .vmem => 0
  | .smem => 0
  | _ => 0

abbrev hbmTy0_0 (i : Nat) : BufTy := match i % 128 with
  | 0 => ⟨S24000, .i32⟩
  | 1 => ⟨S5600, .i32⟩
  | 2 => ⟨S2240, .i32⟩
  | 3 => ⟨S96000, .i32⟩
  | 4 => ⟨S96000, .i32⟩
  | 5 => ⟨S48000, .i32⟩
  | 6 => ⟨S48000, .i32⟩
  | 7 => ⟨S48000, .i32⟩
  | 8 => ⟨S48000, .i32⟩
  | 9 => ⟨S24000, .i32⟩
  | 10 => ⟨S24000, .i32⟩
  | 11 => ⟨S24000, .i32⟩
  | 12 => ⟨S24000, .i32⟩
  | 13 => ⟨S96000, .f32⟩
  | 14 => ⟨S48000, .f32⟩
  | 15 => ⟨S48000, .f32⟩
  | 16 => ⟨S24000, .f32⟩
  | 17 => ⟨S24000, .f32⟩
  | 18 => ⟨S15000x256, .f32⟩
  | 19 => ⟨S50x512, .f32⟩
  | 20 => ⟨S512x256, .f32⟩
  | 21 => ⟨S512, .f32⟩
  | 22 => ⟨S2x5x512x512, .f32⟩
  | 23 => ⟨S2x5x512, .f32⟩
  | 24 => ⟨S2x512x512, .f32⟩
  | 25 => ⟨S2x512x512, .f32⟩
  | 26 => ⟨S2x512, .f32⟩
  | 27 => ⟨S2x512, .f32⟩
  | 28 => ⟨S1x512, .f32⟩
  | 29 => ⟨S1, .f32⟩
  | 30 => ⟨S16, .f32⟩
  | 31 => ⟨S_, .i32⟩
  | 32 => ⟨S24000, .i32⟩
  | 33 => ⟨S24000, .i1⟩
  | 34 => ⟨S_, .i32⟩
  | 35 => ⟨S24000, .i32⟩
  | 36 => ⟨S24000, .i32⟩
  | 37 => ⟨S24000, .i32⟩
  | 38 => ⟨S24000x1, .i32⟩
  | 39 => ⟨S24000x256, .f32⟩
  | 40 => ⟨S256x512, .f32⟩
  | 41 => ⟨S24000x512, .f32⟩
  | 42 => ⟨S1x512, .f32⟩
  | 43 => ⟨S24000x512, .f32⟩
  | 44 => ⟨S24000x512, .f32⟩
  | 45 => ⟨S_, .i32⟩
  | 46 => ⟨S5600, .i32⟩
  | 47 => ⟨S5600, .i1⟩
  | 48 => ⟨S_, .i32⟩
  | 49 => ⟨S5600, .i32⟩
  | 50 => ⟨S5600, .i32⟩
  | 51 => ⟨S5600, .i32⟩
  | 52 => ⟨S5600x1, .i32⟩
  | 53 => ⟨S5600x512, .f32⟩
  | 54 => ⟨S1x5x512x512, .f32⟩
  | 55 => ⟨S5x512x512, .f32⟩
  | 56 => ⟨S1x5x512, .f32⟩
  | 57 => ⟨S5x512, .f32⟩
  | 58 => ⟨S1x512x512, .f32⟩
  | 59 => ⟨S512x512, .f32⟩
  | 60 => ⟨S512x512, .f32⟩
  | 61 => ⟨S24000x512, .f32⟩
  | 62 => ⟨S1x512, .f32⟩
  | 63 => ⟨S512, .f32⟩
  | 64 => ⟨S1x512, .f32⟩
  | 65 => ⟨S24000x512, .f32⟩
  | 66 => ⟨S24000x512, .f32⟩
  | 67 => ⟨S1x512x512, .f32⟩
  | 68 => ⟨S512x512, .f32⟩
  | 69 => ⟨S512x512, .f32⟩
  | 70 => ⟨S24000x512, .f32⟩
  | 71 => ⟨S1x512, .f32⟩
  | 72 => ⟨S512, .f32⟩
  | 73 => ⟨S1x512, .f32⟩
  | 74 => ⟨S24000x512, .f32⟩
  | 75 => ⟨S24000x512, .f32⟩
  | 76 => ⟨S1x512x512, .f32⟩
  | 77 => ⟨S512x512, .f32⟩
  | 78 => ⟨S512x512, .f32⟩
  | 79 => ⟨S24000x512, .f32⟩
  | 80 => ⟨S1x512, .f32⟩
  | 81 => ⟨S512, .f32⟩
  | 82 => ⟨S1x512, .f32⟩
  | 83 => ⟨S24000x512, .f32⟩
  | 84 => ⟨S24000x512, .f32⟩
  | 85 => ⟨S1x512x512, .f32⟩
  | 86 => ⟨S512x512, .f32⟩
  | 87 => ⟨S512x512, .f32⟩
  | 88 => ⟨S5600x512, .f32⟩
  | 89 => ⟨S1x512, .f32⟩
  | 90 => ⟨S512, .f32⟩
  | 91 => ⟨S1x512, .f32⟩
  | 92 => ⟨S5600x512, .f32⟩
  | 93 => ⟨S5600x512, .f32⟩
  | 94 => ⟨S1x512x512, .f32⟩
  | 95 => ⟨S512x512, .f32⟩
  | 96 => ⟨S512x512, .f32⟩
  | 97 => ⟨S5600x512, .f32⟩
  | 98 => ⟨S1x512, .f32⟩
  | 99 => ⟨S512, .f32⟩
  | 100 => ⟨S1x512, .f32⟩
  | 101 => ⟨S5600x512, .f32⟩
  | 102 => ⟨S5600x512, .f32⟩
  | 103 => ⟨S_, .i32⟩
  | 104 => ⟨S96000, .i32⟩
  | 105 => ⟨S96000, .i1⟩
  | 106 => ⟨S_, .i32⟩
  | 107 => ⟨S96000, .i32⟩
  | 108 => ⟨S96000, .i32⟩
  | 109 => ⟨S96000, .i32⟩
  | 110 => ⟨S96000x1, .i32⟩
  | 111 => ⟨S96000x512, .f32⟩
  | 112 => ⟨S96000x1, .f32⟩
  | 113 => ⟨S96000x512, .f32⟩
  | 114 => ⟨S96000x512, .f32⟩
  | 115 => ⟨S_, .f32⟩
  | 116 => ⟨S24000x512, .f32⟩
  | 117 => ⟨S96000x1, .i32⟩
  | 118 => ⟨S24000x512, .f32⟩
  | 119 => ⟨S_, .f32⟩
  | 120 => ⟨S96000x1, .f32⟩
  | 121 => ⟨S_, .f32⟩
  | 122 => ⟨S24000x1, .f32⟩
  | 123 => ⟨S96000x1, .i32⟩
  | 124 => ⟨S24000x1, .f32⟩
  | 125 => ⟨S_, .f32⟩
  | 126 => ⟨S24000x1, .f32⟩
  | 127 => ⟨S24000x1, .f32⟩
  | _ => ⟨S24000, .i32⟩

abbrev hbmTy0_1 (i : Nat) : BufTy := match i % 128 with
  | 0 => ⟨S24000x512, .f32⟩
  | 1 => ⟨S24000x512, .f32⟩
  | 2 => ⟨S_, .i32⟩
  | 3 => ⟨S48000, .i32⟩
  | 4 => ⟨S48000, .i1⟩
  | 5 => ⟨S_, .i32⟩
  | 6 => ⟨S48000, .i32⟩
  | 7 => ⟨S48000, .i32⟩
  | 8 => ⟨S48000, .i32⟩
  | 9 => ⟨S48000x1, .i32⟩
  | 10 => ⟨S48000x512, .f32⟩
  | 11 => ⟨S48000x1, .f32⟩
  | 12 => ⟨S48000x512, .f32⟩
  | 13 => ⟨S48000x512, .f32⟩
  | 14 => ⟨S_, .f32⟩
  | 15 => ⟨S5600x512, .f32⟩
  | 16 => ⟨S48000x1, .i32⟩
  | 17 => ⟨S5600x512, .f32⟩
  | 18 => ⟨S_, .f32⟩
  | 19 => ⟨S48000x1, .f32⟩
  | 20 => ⟨S_, .f32⟩
  | 21 => ⟨S5600x1, .f32⟩
  | 22 => ⟨S48000x1, .i32⟩
  | 23 => ⟨S5600x1, .f32⟩
  | 24 => ⟨S_, .f32⟩
  | 25 => ⟨S5600x1, .f32⟩
  | 26 => ⟨S5600x1, .f32⟩
  | 27 => ⟨S5600x512, .f32⟩
  | 28 => ⟨S5600x512, .f32⟩
  | 29 => ⟨S_, .i32⟩
  | 30 => ⟨S24000, .i32⟩
  | 31 => ⟨S24000, .i1⟩
  | 32 => ⟨S_, .i32⟩
  | 33 => ⟨S24000, .i32⟩
  | 34 => ⟨S24000, .i32⟩
  | 35 => ⟨S24000, .i32⟩
  | 36 => ⟨S24000x1, .i32⟩
  | 37 => ⟨S24000x512, .f32⟩
  | 38 => ⟨S24000x1, .f32⟩
  | 39 => ⟨S24000x512, .f32⟩
  | 40 => ⟨S24000x512, .f32⟩
  | 41 => ⟨S_, .f32⟩
  | 42 => ⟨S5600x512, .f32⟩
  | 43 => ⟨S24000x1, .i32⟩
  | 44 => ⟨S5600x512, .f32⟩
  | 45 => ⟨S_, .f32⟩
  | 46 => ⟨S24000x1, .f32⟩
  | 47 => ⟨S_, .f32⟩
  | 48 => ⟨S5600x1, .f32⟩
  | 49 => ⟨S24000x1, .i32⟩
  | 50 => ⟨S5600x1, .f32⟩
  | 51 => ⟨S_, .f32⟩
  | 52 => ⟨S5600x1, .f32⟩
  | 53 => ⟨S5600x1, .f32⟩
  | 54 => ⟨S5600x512, .f32⟩
  | 55 => ⟨S5600x512, .f32⟩
  | 56 => ⟨S5600x512, .f32⟩
  | 57 => ⟨S_, .f32⟩
  | 58 => ⟨S24000x512, .f32⟩
  | 59 => ⟨S24000x512, .f32⟩
  | 60 => ⟨S_, .f32⟩
  | 61 => ⟨S5600x512, .f32⟩
  | 62 => ⟨S5600x512, .f32⟩
  | 63 => ⟨S1x5x512x512, .f32⟩
  | 64 => ⟨S5x512x512, .f32⟩
  | 65 => ⟨S1x5x512, .f32⟩
  | 66 => ⟨S5x512, .f32⟩
  | 67 => ⟨S1x512x512, .f32⟩
  | 68 => ⟨S512x512, .f32⟩
  | 69 => ⟨S512x512, .f32⟩
  | 70 => ⟨S24000x512, .f32⟩
  | 71 => ⟨S1x512, .f32⟩
  | 72 => ⟨S512, .f32⟩
  | 73 => ⟨S1x512, .f32⟩
  | 74 => ⟨S24000x512, .f32⟩
  | 75 => ⟨S24000x512, .f32⟩
  | 76 => ⟨S1x512x512, .f32⟩
  | 77 => ⟨S512x512, .f32⟩
  | 78 => ⟨S512x512, .f32⟩
  | 79 => ⟨S24000x512, .f32⟩
  | 80 => ⟨S1x512, .f32⟩
  | 81 => ⟨S512, .f32⟩
  | 82 => ⟨S1x512, .f32⟩
  | 83 => ⟨S24000x512, .f32⟩
  | 84 => ⟨S24000x512, .f32⟩
  | 85 => ⟨S1x512x512, .f32⟩
  | 86 => ⟨S512x512, .f32⟩
  | 87 => ⟨S512x512, .f32⟩
  | 88 => ⟨S24000x512, .f32⟩
  | 89 => ⟨S1x512, .f32⟩
  | 90 => ⟨S512, .f32⟩
  | 91 => ⟨S1x512, .f32⟩
  | 92 => ⟨S24000x512, .f32⟩
  | 93 => ⟨S24000x512, .f32⟩
  | 94 => ⟨S1x512x512, .f32⟩
  | 95 => ⟨S512x512, .f32⟩
  | 96 => ⟨S512x512, .f32⟩
  | 97 => ⟨S5600x512, .f32⟩
  | 98 => ⟨S1x512, .f32⟩
  | 99 => ⟨S512, .f32⟩
  | 100 => ⟨S1x512, .f32⟩
  | 101 => ⟨S5600x512, .f32⟩
  | 102 => ⟨S5600x512, .f32⟩
  | 103 => ⟨S1x512x512, .f32⟩
  | 104 => ⟨S512x512, .f32⟩
  | 105 => ⟨S512x512, .f32⟩
  | 106 => ⟨S5600x512, .f32⟩
  | 107 => ⟨S1x512, .f32⟩
  | 108 => ⟨S512, .f32⟩
  | 109 => ⟨S1x512, .f32⟩
  | 110 => ⟨S5600x512, .f32⟩
  | 111 => ⟨S5600x512, .f32⟩
  | 112 => ⟨S_, .i32⟩
  | 113 => ⟨S48000, .i32⟩
  | 114 => ⟨S48000, .i1⟩
  | 115 => ⟨S_, .i32⟩
  | 116 => ⟨S48000, .i32⟩
  | 117 => ⟨S48000, .i32⟩
  | 118 => ⟨S48000, .i32⟩
  | 119 => ⟨S48000x1, .i32⟩
  | 120 => ⟨S48000x512, .f32⟩
  | 121 => ⟨S48000x1, .f32⟩
  | 122 => ⟨S48000x512, .f32⟩
  | 123 => ⟨S48000x512, .f32⟩
  | 124 => ⟨S_, .f32⟩
  | 125 => ⟨S2240x512, .f32⟩
  | 126 => ⟨S48000x1, .i32⟩
  | 127 => ⟨S2240x512, .f32⟩
  | _ => ⟨S24000, .i32⟩

abbrev hbmTy0_2 (i : Nat) : BufTy := match i % 128 with
  | 0 => ⟨S_, .f32⟩
  | 1 => ⟨S48000x1, .f32⟩
  | 2 => ⟨S_, .f32⟩
  | 3 => ⟨S2240x1, .f32⟩
  | 4 => ⟨S48000x1, .i32⟩
  | 5 => ⟨S2240x1, .f32⟩
  | 6 => ⟨S_, .f32⟩
  | 7 => ⟨S2240x1, .f32⟩
  | 8 => ⟨S2240x1, .f32⟩
  | 9 => ⟨S2240x512, .f32⟩
  | 10 => ⟨S2240x512, .f32⟩
  | 11 => ⟨S_, .i32⟩
  | 12 => ⟨S24000, .i32⟩
  | 13 => ⟨S24000, .i1⟩
  | 14 => ⟨S_, .i32⟩
  | 15 => ⟨S24000, .i32⟩
  | 16 => ⟨S24000, .i32⟩
  | 17 => ⟨S24000, .i32⟩
  | 18 => ⟨S24000x1, .i32⟩
  | 19 => ⟨S24000x512, .f32⟩
  | 20 => ⟨S24000x1, .f32⟩
  | 21 => ⟨S24000x512, .f32⟩
  | 22 => ⟨S24000x512, .f32⟩
  | 23 => ⟨S_, .f32⟩
  | 24 => ⟨S2240x512, .f32⟩
  | 25 => ⟨S24000x1, .i32⟩
  | 26 => ⟨S2240x512, .f32⟩
  | 27 => ⟨S_, .f32⟩
  | 28 => ⟨S24000x1, .f32⟩
  | 29 => ⟨S_, .f32⟩
  | 30 => ⟨S2240x1, .f32⟩
  | 31 => ⟨S24000x1, .i32⟩
  | 32 => ⟨S2240x1, .f32⟩
  | 33 => ⟨S_, .f32⟩
  | 34 => ⟨S2240x1, .f32⟩
  | 35 => ⟨S2240x1, .f32⟩
  | 36 => ⟨S2240x512, .f32⟩
  | 37 => ⟨S2240x512, .f32⟩
  | 38 => ⟨S2240x512, .f32⟩
  | 39 => ⟨S_, .f32⟩
  | 40 => ⟨S2240x512, .f32⟩
  | 41 => ⟨S2240x512, .f32⟩
  | 42 => ⟨S2240x1, .i32⟩
  | 43 => ⟨S112, .i32⟩
  | 44 => ⟨S1x112, .i32⟩
  | 45 => ⟨S2240x112, .i32⟩
  | 46 => ⟨S2240x112, .i32⟩
  | 47 => ⟨S2240x112, .i1⟩
  | 48 => ⟨S2240x112x1, .i1⟩
  | 49 => ⟨S2240x1x512, .f32⟩
  | 50 => ⟨S_, .f32⟩
  | 51 => ⟨S_, .f32⟩
  | 52 => ⟨S2240x112x512, .i1⟩
  | 53 => ⟨S2240x112x512, .f32⟩
  | 54 => ⟨S2240x112x512, .f32⟩
  | 55 => ⟨S2240x112x512, .f32⟩
  | 56 => ⟨S_, .f32⟩
  | 57 => ⟨S112x512, .f32⟩
  | 58 => ⟨S16x7x512, .f32⟩
  | 59 => ⟨S16x1x512, .f32⟩
  | 60 => ⟨S16x512, .f32⟩
  | 61 => ⟨S16x1x512, .f32⟩
  | 62 => ⟨S16x512, .f32⟩
  | 63 => ⟨S16x1x512, .f32⟩
  | 64 => ⟨S16x512, .f32⟩
  | 65 => ⟨S16x1x512, .f32⟩
  | 66 => ⟨S16x512, .f32⟩
  | 67 => ⟨S16x1x512, .f32⟩
  | 68 => ⟨S16x512, .f32⟩
  | 69 => ⟨S16x1x512, .f32⟩
  | 70 => ⟨S16x512, .f32⟩
  | 71 => ⟨S16x1x512, .f32⟩
  | 72 => ⟨S16x512, .f32⟩
  | 73 => ⟨S1x512x512, .f32⟩
  | 74 => ⟨S512x512, .f32⟩
  | 75 => ⟨S1x512x512, .f32⟩
  | 76 => ⟨S512x512, .f32⟩
  | 77 => ⟨S1x512, .f32⟩
  | 78 => ⟨S512, .f32⟩
  | 79 => ⟨S1x512, .f32⟩
  | 80 => ⟨S512, .f32⟩
  | 81 => ⟨S_, .f32⟩
  | 82 => ⟨S16x512, .f32⟩
  | 83 => ⟨S512x512, .f32⟩
  | 84 => ⟨S16x512, .f32⟩
  | 85 => ⟨S1x512, .f32⟩
  | 86 => ⟨S16x512, .f32⟩
  | 87 => ⟨S16x512, .f32⟩
  | 88 => ⟨S512x512, .f32⟩
  | 89 => ⟨S16x512, .f32⟩
  | 90 => ⟨S16x512, .f32⟩
  | 91 => ⟨S1x512, .f32⟩
  | 92 => ⟨S16x512, .f32⟩
  | 93 => ⟨S16x512, .f32⟩
  | 94 => ⟨S16x512, .f32⟩
  | 95 => ⟨S512x512, .f32⟩
  | 96 => ⟨S16x512, .f32⟩
  | 97 => ⟨S1x512, .f32⟩
  | 98 => ⟨S16x512, .f32⟩
  | 99 => ⟨S16x512, .f32⟩
  | 100 => ⟨S512x512, .f32⟩
  | 101 => ⟨S16x512, .f32⟩
  | 102 => ⟨S16x512, .f32⟩
  | 103 => ⟨S1x512, .f32⟩
  | 104 => ⟨S16x512, .f32⟩
  | 105 => ⟨S16x512, .f32⟩
  | 106 => ⟨S16x512, .f32⟩
  | 107 => ⟨S512x512, .f32⟩
  | 108 => ⟨S16x512, .f32⟩
  | 109 => ⟨S1x512, .f32⟩
  | 110 => ⟨S16x512, .f32⟩
  | 111 => ⟨S16x512, .f32⟩
  | 112 => ⟨S512x512, .f32⟩
  | 113 => ⟨S16x512, .f32⟩
  | 114 => ⟨S16x512, .f32⟩
  | 115 => ⟨S1x512, .f32⟩
  | 116 => ⟨S16x512, .f32⟩
  | 117 => ⟨S16x512, .f32⟩
  | 118 => ⟨S16x512, .f32⟩
  | 119 => ⟨S512x512, .f32⟩
  | 120 => ⟨S16x512, .f32⟩
  | 121 => ⟨S1x512, .f32⟩
  | 122 => ⟨S16x512, .f32⟩
  | 123 => ⟨S16x512, .f32⟩
  | 124 => ⟨S512x512, .f32⟩
  | 125 => ⟨S16x512, .f32⟩
  | 126 => ⟨S16x512, .f32⟩
  | 127 => ⟨S1x512, .f32⟩
  | _ => ⟨S24000, .i32⟩

abbrev hbmTy0_3 (i : Nat) : BufTy := match i % 128 with
  | 0 => ⟨S16x512, .f32⟩
  | 1 => ⟨S16x512, .f32⟩
  | 2 => ⟨S16x512, .f32⟩
  | 3 => ⟨S512x512, .f32⟩
  | 4 => ⟨S16x512, .f32⟩
  | 5 => ⟨S1x512, .f32⟩
  | 6 => ⟨S16x512, .f32⟩
  | 7 => ⟨S16x512, .f32⟩
  | 8 => ⟨S512x512, .f32⟩
  | 9 => ⟨S16x512, .f32⟩
  | 10 => ⟨S16x512, .f32⟩
  | 11 => ⟨S1x512, .f32⟩
  | 12 => ⟨S16x512, .f32⟩
  | 13 => ⟨S16x512, .f32⟩
  | 14 => ⟨S16x512, .f32⟩
  | 15 => ⟨S512x512, .f32⟩
  | 16 => ⟨S16x512, .f32⟩
  | 17 => ⟨S1x512, .f32⟩
  | 18 => ⟨S16x512, .f32⟩
  | 19 => ⟨S16x512, .f32⟩
  | 20 => ⟨S512x512, .f32⟩
  | 21 => ⟨S16x512, .f32⟩
  | 22 => ⟨S16x512, .f32⟩
  | 23 => ⟨S1x512, .f32⟩
  | 24 => ⟨S16x512, .f32⟩
  | 25 => ⟨S16x512, .f32⟩
  | 26 => ⟨S16x512, .f32⟩
  | 27 => ⟨S512x512, .f32⟩
  | 28 => ⟨S16x512, .f32⟩
  | 29 => ⟨S1x512, .f32⟩
  | 30 => ⟨S16x512, .f32⟩
  | 31 => ⟨S16x512, .f32⟩
  | 32 => ⟨S512x512, .f32⟩
  | 33 => ⟨S16x512, .f32⟩
  | 34 => ⟨S16x512, .f32⟩
  | 35 => ⟨S1x512, .f32⟩
  | 36 => ⟨S16x512, .f32⟩
  | 37 => ⟨S16x512, .f32⟩
  | 38 => ⟨S16x512, .f32⟩
  | 39 => ⟨S1x512x512, .f32⟩
  | 40 => ⟨S512x512, .f32⟩
  | 41 => ⟨S1x512x512, .f32⟩
  | 42 => ⟨S512x512, .f32⟩
  | 43 => ⟨S1x512, .f32⟩
  | 44 => ⟨S512, .f32⟩
  | 45 => ⟨S1x512, .f32⟩
  | 46 => ⟨S512, .f32⟩
  | 47 => ⟨S_, .f32⟩
  | 48 => ⟨S16x512, .f32⟩
  | 49 => ⟨S512x512, .f32⟩
  | 50 => ⟨S16x512, .f32⟩
  | 51 => ⟨S1x512, .f32⟩
  | 52 => ⟨S16x512, .f32⟩
  | 53 => ⟨S16x512, .f32⟩
  | 54 => ⟨S512x512, .f32⟩
  | 55 => ⟨S16x512, .f32⟩
  | 56 => ⟨S16x512, .f32⟩
  | 57 => ⟨S1x512, .f32⟩
  | 58 => ⟨S16x512, .f32⟩
  | 59 => ⟨S16x512, .f32⟩
  | 60 => ⟨S16x512, .f32⟩
  | 61 => ⟨S512x512, .f32⟩
  | 62 => ⟨S16x512, .f32⟩
  | 63 => ⟨S1x512, .f32⟩
  | 64 => ⟨S16x512, .f32⟩
  | 65 => ⟨S16x512, .f32⟩
  | 66 => ⟨S512x512, .f32⟩
  | 67 => ⟨S16x512, .f32⟩
  | 68 => ⟨S16x512, .f32⟩
  | 69 => ⟨S1x512, .f32⟩
  | 70 => ⟨S16x512, .f32⟩
  | 71 => ⟨S16x512, .f32⟩
  | 72 => ⟨S16x512, .f32⟩
  | 73 => ⟨S512x512, .f32⟩
  | 74 => ⟨S16x512, .f32⟩
  | 75 => ⟨S1x512, .f32⟩
  | 76 => ⟨S16x512, .f32⟩
  | 77 => ⟨S16x512, .f32⟩
  | 78 => ⟨S512x512, .f32⟩
  | 79 => ⟨S16x512, .f32⟩
  | 80 => ⟨S16x512, .f32⟩
  | 81 => ⟨S1x512, .f32⟩
  | 82 => ⟨S16x512, .f32⟩
  | 83 => ⟨S16x512, .f32⟩
  | 84 => ⟨S16x512, .f32⟩
  | 85 => ⟨S512x512, .f32⟩
  | 86 => ⟨S16x512, .f32⟩
  | 87 => ⟨S1x512, .f32⟩
  | 88 => ⟨S16x512, .f32⟩
  | 89 => ⟨S16x512, .f32⟩
  | 90 => ⟨S512x512, .f32⟩
  | 91 => ⟨S16x512, .f32⟩
  | 92 => ⟨S16x512, .f32⟩
  | 93 => ⟨S1x512, .f32⟩
  | 94 => ⟨S16x512, .f32⟩
  | 95 => ⟨S16x512, .f32⟩
  | 96 => ⟨S16x512, .f32⟩
  | 97 => ⟨S512x512, .f32⟩
  | 98 => ⟨S16x512, .f32⟩
  | 99 => ⟨S1x512, .f32⟩
  | 100 => ⟨S16x512, .f32⟩
  | 101 => ⟨S16x512, .f32⟩
  | 102 => ⟨S512x512, .f32⟩
  | 103 => ⟨S16x512, .f32⟩
  | 104 => ⟨S16x512, .f32⟩
  | 105 => ⟨S1x512, .f32⟩
  | 106 => ⟨S16x512, .f32⟩
  | 107 => ⟨S16x512, .f32⟩
  | 108 => ⟨S16x512, .f32⟩
  | 109 => ⟨S512x512, .f32⟩
  | 110 => ⟨S16x512, .f32⟩
  | 111 => ⟨S1x512, .f32⟩
  | 112 => ⟨S16x512, .f32⟩
  | 113 => ⟨S16x512, .f32⟩
  | 114 => ⟨S512x512, .f32⟩
  | 115 => ⟨S16x512, .f32⟩
  | 116 => ⟨S16x512, .f32⟩
  | 117 => ⟨S1x512, .f32⟩
  | 118 => ⟨S16x512, .f32⟩
  | 119 => ⟨S16x512, .f32⟩
  | 120 => ⟨S16x512, .f32⟩
  | 121 => ⟨S512x512, .f32⟩
  | 122 => ⟨S16x512, .f32⟩
  | 123 => ⟨S1x512, .f32⟩
  | 124 => ⟨S16x512, .f32⟩
  | 125 => ⟨S16x512, .f32⟩
  | 126 => ⟨S512x512, .f32⟩
  | 127 => ⟨S16x512, .f32⟩
  | _ => ⟨S24000, .i32⟩

abbrev hbmTy0_4 (i : Nat) : BufTy := match i % 128 with
  | 0 => ⟨S16x512, .f32⟩
  | 1 => ⟨S1x512, .f32⟩
  | 2 => ⟨S16x512, .f32⟩
  | 3 => ⟨S16x512, .f32⟩
  | 4 => ⟨S16x512, .f32⟩
  | 5 => ⟨S512x1, .f32⟩
  | 6 => ⟨S16x1, .f32⟩
  | 7 => ⟨S1x1, .f32⟩
  | 8 => ⟨S16x1, .f32⟩
  | 9 => ⟨S16x1, .f32⟩
  | 10 => ⟨S16, .f32⟩
  | 11 => ⟨S_, .f32⟩
  | 12 => ⟨S16, .f32⟩
  | 13 => ⟨S16, .f32⟩
  | 14 => ⟨S16, .f32⟩
  | 15 => ⟨S16, .f32⟩
  | 16 => ⟨S16, .f32⟩
  | 17 => ⟨S16, .f32⟩
  | 18 => ⟨S16, .f32⟩
  | 19 => ⟨S16, .f32⟩
  | 20 => ⟨S16, .f32⟩
  | 21 => ⟨S_, .f32⟩
  | 22 => ⟨S_, .f32⟩
  | 23 => ⟨S_, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | _ => ⟨S24000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S24000, .i32⟩

abbrev bufTy : (tb : Table) → Fin (tcTables nBuf tb) → BufTy
  | .hbm, ⟨i, _⟩ => hbmTy i
  | _, _ => ⟨S24000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_v0 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_c_1 : Ref sig .tc := ⟨.hbm, 45, rfl⟩
abbrev main_v12 : Ref sig .tc := ⟨.hbm, 46, rfl⟩
abbrev main_v13 : Ref sig .tc := ⟨.hbm, 47, rfl⟩
abbrev main_c_2 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_3 : Ref sig .tc := ⟨.hbm, 103, rfl⟩
abbrev main_v68 : Ref sig .tc := ⟨.hbm, 104, rfl⟩
abbrev main_v69 : Ref sig .tc := ⟨.hbm, 105, rfl⟩
abbrev main_c_4 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_5 : Ref sig .tc := ⟨.hbm, 119, rfl⟩
abbrev main_v81 : Ref sig .tc := ⟨.hbm, 120, rfl⟩
abbrev main_cst_6 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_7 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_8 : Ref sig .tc := ⟨.hbm, 130, rfl⟩
abbrev main_v89 : Ref sig .tc := ⟨.hbm, 131, rfl⟩
abbrev main_v90 : Ref sig .tc := ⟨.hbm, 132, rfl⟩
abbrev main_c_9 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_10 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_11 : Ref sig .tc := ⟨.hbm, 146, rfl⟩
abbrev main_v102 : Ref sig .tc := ⟨.hbm, 147, rfl⟩
abbrev main_cst_12 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_13 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_14 : Ref sig .tc := ⟨.hbm, 157, rfl⟩
abbrev main_v110 : Ref sig .tc := ⟨.hbm, 158, rfl⟩
abbrev main_v111 : Ref sig .tc := ⟨.hbm, 159, rfl⟩
abbrev main_c_15 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_16 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_17 : Ref sig .tc := ⟨.hbm, 173, rfl⟩
abbrev main_v123 : Ref sig .tc := ⟨.hbm, 174, rfl⟩
abbrev main_cst_18 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_19 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_20 : Ref sig .tc := ⟨.hbm, 185, rfl⟩
abbrev main_v132 : Ref sig .tc := ⟨.hbm, 186, rfl⟩
abbrev main_v133 : Ref sig .tc := ⟨.hbm, 187, rfl⟩
abbrev main_cst_21 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_c_22 : Ref sig .tc := ⟨.hbm, 240, rfl⟩
abbrev main_v185 : Ref sig .tc := ⟨.hbm, 241, rfl⟩
abbrev main_v186 : Ref sig .tc := ⟨.hbm, 242, rfl⟩
abbrev main_c_23 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_cst_24 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_cst_25 : Ref sig .tc := ⟨.hbm, 256, rfl⟩
abbrev main_v198 : Ref sig .tc := ⟨.hbm, 257, rfl⟩
abbrev main_cst_26 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_cst_27 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_c_28 : Ref sig .tc := ⟨.hbm, 267, rfl⟩
abbrev main_v206 : Ref sig .tc := ⟨.hbm, 268, rfl⟩
abbrev main_v207 : Ref sig .tc := ⟨.hbm, 269, rfl⟩
abbrev main_c_29 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_cst_30 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_cst_31 : Ref sig .tc := ⟨.hbm, 283, rfl⟩
abbrev main_v219 : Ref sig .tc := ⟨.hbm, 284, rfl⟩
abbrev main_cst_32 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_cst_33 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_34 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_cst_35 : Ref sig .tc := ⟨.hbm, 306, rfl⟩
abbrev main_call0_v0 : Ref sig .tc := ⟨.hbm, 307, rfl⟩
abbrev main_call0_v1 : Ref sig .tc := ⟨.hbm, 308, rfl⟩
abbrev main_call0_v2 : Ref sig .tc := ⟨.hbm, 309, rfl⟩
abbrev main_call0_v3 : Ref sig .tc := ⟨.hbm, 310, rfl⟩
abbrev main_v238 : Ref sig .tc := ⟨.hbm, 311, rfl⟩
abbrev main_cst_36 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_cst_37 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_v350 : Ref sig .tc := ⟨.hbm, 425, rfl⟩
abbrev main_v351 : Ref sig .tc := ⟨.hbm, 426, rfl⟩
abbrev main_v352 : Ref sig .tc := ⟨.hbm, 427, rfl⟩
abbrev main_v353 : Ref sig .tc := ⟨.hbm, 428, rfl⟩
abbrev main_v354 : Ref sig .tc := ⟨.hbm, 429, rfl⟩
abbrev main_v355 : Ref sig .tc := ⟨.hbm, 430, rfl⟩
abbrev main_cst_38 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_v365 : Ref sig .tc := ⟨.hbm, 441, rfl⟩
abbrev main_v366 : Ref sig .tc := ⟨.hbm, 442, rfl⟩
abbrev main_v367 : Ref sig .tc := ⟨.hbm, 443, rfl⟩
abbrev main_v368 : Ref sig .tc := ⟨.hbm, 444, rfl⟩
abbrev main_v369 : Ref sig .tc := ⟨.hbm, 445, rfl⟩
abbrev main_v370 : Ref sig .tc := ⟨.hbm, 446, rfl⟩
abbrev main_v371 : Ref sig .tc := ⟨.hbm, 447, rfl⟩
abbrev main_v372 : Ref sig .tc := ⟨.hbm, 448, rfl⟩
abbrev main_v373 : Ref sig .tc := ⟨.hbm, 449, rfl⟩
abbrev main_v374 : Ref sig .tc := ⟨.hbm, 450, rfl⟩
abbrev main_v375 : Ref sig .tc := ⟨.hbm, 451, rfl⟩
abbrev main_v376 : Ref sig .tc := ⟨.hbm, 452, rfl⟩
abbrev main_v377 : Ref sig .tc := ⟨.hbm, 453, rfl⟩
abbrev main_v378 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_v387 : Ref sig .tc := ⟨.hbm, 463, rfl⟩
abbrev main_v388 : Ref sig .tc := ⟨.hbm, 464, rfl⟩
abbrev main_v389 : Ref sig .tc := ⟨.hbm, 465, rfl⟩
abbrev main_v390 : Ref sig .tc := ⟨.hbm, 466, rfl⟩
abbrev main_v391 : Ref sig .tc := ⟨.hbm, 467, rfl⟩
abbrev main_v392 : Ref sig .tc := ⟨.hbm, 468, rfl⟩
abbrev main_v393 : Ref sig .tc := ⟨.hbm, 469, rfl⟩
abbrev main_v394 : Ref sig .tc := ⟨.hbm, 470, rfl⟩
abbrev main_v395 : Ref sig .tc := ⟨.hbm, 471, rfl⟩
abbrev main_v396 : Ref sig .tc := ⟨.hbm, 472, rfl⟩
abbrev main_v397 : Ref sig .tc := ⟨.hbm, 473, rfl⟩
abbrev main_v398 : Ref sig .tc := ⟨.hbm, 474, rfl⟩
abbrev main_v399 : Ref sig .tc := ⟨.hbm, 475, rfl⟩
abbrev main_v400 : Ref sig .tc := ⟨.hbm, 476, rfl⟩
abbrev main_v401 : Ref sig .tc := ⟨.hbm, 477, rfl⟩
abbrev main_v402 : Ref sig .tc := ⟨.hbm, 478, rfl⟩
abbrev main_v403 : Ref sig .tc := ⟨.hbm, 479, rfl⟩
abbrev main_v404 : Ref sig .tc := ⟨.hbm, 480, rfl⟩
abbrev main_v405 : Ref sig .tc := ⟨.hbm, 481, rfl⟩
abbrev main_v406 : Ref sig .tc := ⟨.hbm, 482, rfl⟩
abbrev main_v407 : Ref sig .tc := ⟨.hbm, 483, rfl⟩
abbrev main_v408 : Ref sig .tc := ⟨.hbm, 484, rfl⟩
abbrev main_v409 : Ref sig .tc := ⟨.hbm, 485, rfl⟩
abbrev main_v410 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_v414 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_v419 : Ref sig .tc := ⟨.hbm, 495, rfl⟩
abbrev main_v420 : Ref sig .tc := ⟨.hbm, 496, rfl⟩
abbrev main_v421 : Ref sig .tc := ⟨.hbm, 497, rfl⟩
abbrev main_v422 : Ref sig .tc := ⟨.hbm, 498, rfl⟩
abbrev main_v423 : Ref sig .tc := ⟨.hbm, 499, rfl⟩
abbrev main_v424 : Ref sig .tc := ⟨.hbm, 500, rfl⟩
abbrev main_v425 : Ref sig .tc := ⟨.hbm, 501, rfl⟩
abbrev main_v426 : Ref sig .tc := ⟨.hbm, 502, rfl⟩
abbrev main_v427 : Ref sig .tc := ⟨.hbm, 503, rfl⟩
abbrev main_v428 : Ref sig .tc := ⟨.hbm, 504, rfl⟩
abbrev main_v429 : Ref sig .tc := ⟨.hbm, 505, rfl⟩
abbrev main_v430 : Ref sig .tc := ⟨.hbm, 506, rfl⟩
abbrev main_v431 : Ref sig .tc := ⟨.hbm, 507, rfl⟩
abbrev main_v432 : Ref sig .tc := ⟨.hbm, 508, rfl⟩
abbrev main_v433 : Ref sig .tc := ⟨.hbm, 509, rfl⟩
abbrev main_v434 : Ref sig .tc := ⟨.hbm, 510, rfl⟩
abbrev main_v435 : Ref sig .tc := ⟨.hbm, 511, rfl⟩
abbrev main_v436 : Ref sig .tc := ⟨.hbm, 512, rfl⟩
abbrev main_v437 : Ref sig .tc := ⟨.hbm, 513, rfl⟩
abbrev main_v438 : Ref sig .tc := ⟨.hbm, 514, rfl⟩
abbrev main_v439 : Ref sig .tc := ⟨.hbm, 515, rfl⟩
abbrev main_v440 : Ref sig .tc := ⟨.hbm, 516, rfl⟩
abbrev main_v441 : Ref sig .tc := ⟨.hbm, 517, rfl⟩
abbrev main_v442 : Ref sig .tc := ⟨.hbm, 518, rfl⟩
abbrev main_v443 : Ref sig .tc := ⟨.hbm, 519, rfl⟩
abbrev main_v444 : Ref sig .tc := ⟨.hbm, 520, rfl⟩
abbrev main_v445 : Ref sig .tc := ⟨.hbm, 521, rfl⟩
abbrev main_v446 : Ref sig .tc := ⟨.hbm, 522, rfl⟩
abbrev main_cst_39 : Ref sig .tc := ⟨.hbm, 523, rfl⟩
abbrev main_v447 : Ref sig .tc := ⟨.hbm, 524, rfl⟩
abbrev main_v448 : Ref sig .tc := ⟨.hbm, 525, rfl⟩
abbrev main_v449 : Ref sig .tc := ⟨.hbm, 526, rfl⟩
abbrev main_v450 : Ref sig .tc := ⟨.hbm, 527, rfl⟩
abbrev main_v451 : Ref sig .tc := ⟨.hbm, 528, rfl⟩
abbrev main_v452 : Ref sig .tc := ⟨.hbm, 529, rfl⟩
abbrev main_v453 : Ref sig .tc := ⟨.hbm, 530, rfl⟩
abbrev main_v454 : Ref sig .tc := ⟨.hbm, 531, rfl⟩
abbrev main_v455 : Ref sig .tc := ⟨.hbm, 532, rfl⟩
abbrev main_cst_40 : Ref sig .tc := ⟨.hbm, 533, rfl⟩
abbrev main_v456 : Ref sig .tc := ⟨.hbm, 534, rfl⟩
abbrev main_cst_41 : Ref sig .tc := ⟨.hbm, 535, rfl⟩
abbrev main_v457 : Ref sig .tc := ⟨.hbm, 536, rfl⟩
abbrev main_v458 : Ref sig .tc := ⟨.hbm, 537, rfl⟩
abbrev main_v459 : Ref sig .tc := ⟨.hbm, 538, rfl⟩
abbrev main_cst_42 : Ref sig .tc := ⟨.hbm, 539, rfl⟩
abbrev main_v460 : Ref sig .tc := ⟨.hbm, 540, rfl⟩
abbrev main_v461 : Ref sig .tc := ⟨.hbm, 541, rfl⟩
abbrev main_cst_43 : Ref sig .tc := ⟨.hbm, 542, rfl⟩
abbrev main_v462 : Ref sig .tc := ⟨.hbm, 543, rfl⟩
abbrev main_v463 : Ref sig .tc := ⟨.hbm, 544, rfl⟩

abbrev nD : Nat := 1
abbrev τ : Topo := Topo.v7x

variable {F : FTy → Type} [FloatOps F]
-- ==== Proof.Run.lean ====
/- The kernel's run: every buffer of the TensorCore ends at what the fold over the program's segments leaves in it. -/
module

public import proofs.«01_k».proof.Proof.Gen.KernelIdeal.Frame

@[expose] public section

noncomputable section

namespace Cert.Net.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel runs without a fault, and every unscoped buffer of each device ends
    at the last contents of the fold over the program's segments. -/
theorem buffers : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => h)

/-- The run read at the two results and the arguments: the results end as the fold leaves them, the arguments as
    launched. -/
theorem results : θ_run defs (onTc (τ := τ) (main (F := F))) ⟨m, fun _ => 0, ρ⟩ (fun r => ∀ c : Dev nD,
      r.2.mem ((c.tc : Thread nD τ).loc main_v237) = W19 m ρ c (Proc.devRef .tc main_v237)
      ∧ r.2.mem ((c.tc : Thread nD τ).loc main_v238) = W19 m ρ c (Proc.devRef .tc main_v238)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c => ⟨h c _ (mem_uc main_v237 (by decide)), h c _ (mem_uc main_v238 (by decide)),
    (h c _ (mem_uc main_arg0 (by decide))).trans (W19_main_arg0 m ρ c),
    (h c _ (mem_uc main_arg1 (by decide))).trans (W19_main_arg1 m ρ c),
    (h c _ (mem_uc main_arg2 (by decide))).trans (W19_main_arg2 m ρ c),
    (h c _ (mem_uc main_arg3 (by decide))).trans (W19_main_arg3 m ρ c),
    (h c _ (mem_uc main_arg4 (by decide))).trans (W19_main_arg4 m ρ c),
    (h c _ (mem_uc main_arg5 (by decide))).trans (W19_main_arg5 m ρ c),
    (h c _ (mem_uc main_arg6 (by decide))).trans (W19_main_arg6 m ρ c),
    (h c _ (mem_uc main_arg7 (by decide))).trans (W19_main_arg7 m ρ c),
    (h c _ (mem_uc main_arg8 (by decide))).trans (W19_main_arg8 m ρ c),
    (h c _ (mem_uc main_arg9 (by decide))).trans (W19_main_arg9 m ρ c),
    (h c _ (mem_uc main_arg10 (by decide))).trans (W19_main_arg10 m ρ c),
    (h c _ (mem_uc main_arg11 (by decide))).trans (W19_main_arg11 m ρ c),
    (h c _ (mem_uc main_arg12 (by decide))).trans (W19_main_arg12 m ρ c),
    (h c _ (mem_uc main_arg13 (by decide))).trans (W19_main_arg13 m ρ c),
    (h c _ (mem_uc main_arg14 (by decide))).trans (W19_main_arg14 m ρ c),
    (h c _ (mem_uc main_arg15 (by decide))).trans (W19_main_arg15 m ρ c),
    (h c _ (mem_uc main_arg16 (by decide))).trans (W19_main_arg16 m ρ c),
    (h c _ (mem_uc main_arg17 (by decide))).trans (W19_main_arg17 m ρ c),
    (h c _ (mem_uc main_arg18 (by decide))).trans (W19_main_arg18 m ρ c),
    (h c _ (mem_uc main_arg19 (by decide))).trans (W19_main_arg19 m ρ c),
    (h c _ (mem_uc main_arg20 (by decide))).trans (W19_main_arg20 m ρ c),
    (h c _ (mem_uc main_arg21 (by decide))).trans (W19_main_arg21 m ρ c),
    (h c _ (mem_uc main_arg22 (by decide))).trans (W19_main_arg22 m ρ c),
    (h c _ (mem_uc main_arg23 (by decide))).trans (W19_main_arg23 m ρ c),
    (h c _ (mem_uc main_arg24 (by decide))).trans (W19_main_arg24 m ρ c),
    (h c _ (mem_uc main_arg25 (by decide))).trans (W19_main_arg25 m ρ c),
    (h c _ (mem_uc main_arg26 (by decide))).trans (W19_main_arg26 m ρ c),
    (h c _ (mem_uc main_arg27 (by decide))).trans (W19_main_arg27 m ρ c),
    (h c _ (mem_uc main_arg28 (by decide))).trans (W19_main_arg28 m ρ c),
    (h c _ (mem_uc main_arg29 (by decide))).trans (W19_main_arg29 m ρ c),
    (h c _ (mem_uc main_arg30 (by decide))).trans (W19_main_arg30 m ρ c)⟩) (buffers m ρ)

end Cert.Net.Run

end
-- ==== Proof.Linear.lean ====
/- Linear maps on extended-real arrays: what composing them beforehand changes, and why, on arrays of real numbers, it
   changes nothing. -/
module

public import Idealize.ShloMosaic.PureOps.Ideal.Laws
public import Idealize.ShloMosaic.Lib.Pointwise

@[expose] public section

noncomputable section

open Idealize.ShloMosaic
open scoped BigOperators

namespace Cert.Net

/-- Every entry of the family is a real number. -/
def Reals {ι : Type} (f : ι → EReal) : Prop := ∀ i, ∃ r : ℝ, f i = (r : EReal)

/-- A product of two reals is real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A sum of two reals is real. -/
theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The larger of two reals is real. -/
theorem real_max {x y : EReal} (hx : ∃ r : ℝ, x = r) (hy : ∃ r : ℝ, y = r) : ∃ r : ℝ, max x y = r := by
  rcases max_choice x y with h | h <;> rw [h] <;> assumption

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem real_sum {ι : Type} (s : Finset ι) {f : ι → EReal} (hf : ∀ i ∈ s, ∃ r : ℝ, f i = r) : ∃ r : ℝ, ∑ i ∈ s, f i = r := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- A family of reals is a family of coercions. -/
theorem Reals.choose {ι : Type} {f : ι → EReal} (h : Reals f) : ∃ g : ι → ℝ, f = fun i => (g i : EReal) :=
  ⟨fun i => (h i).choose, funext fun i => (h i).choose_spec⟩

/-- Rows, columns: the shape of a matrix, and of a vector. -/
abbrev Mat (m n : Nat) : Type := (⟨2, ![m, n]⟩ : Shape).Idx → EReal
/-- A vector of extended reals. -/
abbrev Row (n : Nat) : Type := (⟨1, ![n]⟩ : Shape).Idx → EReal

/-- `x @ W.T + b`: entry `(i, o)` is the sum over `k` of `x[i, k] * W[o, k]`, plus `b[o]`. -/
def lin {m k n : Nat} (x : Mat m k) (W : Mat n k) (b : Row n) : Mat m n :=
  fun j => (∑ q : Fin k, x (ix2 (j 0) q) * W (ix2 (j 1) q)) + b (ix1 (j 1))

/-- `A @ W`: the weight of the map `W` followed by the map `A`. -/
def compW {n k l : Nat} (A : Mat n k) (W : Mat k l) : Mat n l :=
  fun j => ∑ q : Fin k, A (ix2 (j 0) q) * W (ix2 q (j 1))

/-- `b @ A.T + c`: the bias of the map with bias `b` followed by the map `A` with bias `c`. -/
def compB {n k : Nat} (A : Mat n k) (c : Row n) (b : Row k) : Row n :=
  fun j => (∑ q : Fin k, b (ix1 q) * A (ix2 (j 0) q)) + c (ix1 (j 0))

/-- A linear map of reals is real. -/
theorem lin_reals {m k n : Nat} {x : Mat m k} {W : Mat n k} {b : Row n} (hx : Reals x) (hW : Reals W) (hb : Reals b) :
    Reals (lin x W b) := fun _ => real_add (real_sum _ fun _ _ => real_mul (hx _) (hW _)) (hb _)

/-- A composed weight of reals is real. -/
theorem compW_reals {n k l : Nat} {A : Mat n k} {W : Mat k l} (hA : Reals A) (hW : Reals W) : Reals (compW A W) :=
  fun _ => real_sum _ fun _ _ => real_mul (hA _) (hW _)

/-- A real factor distributes over a real plus any extended real. -/
theorem real_add_mul (r a : ℝ) (b : EReal) : ((r : EReal) + b) * (a : EReal) = (r : EReal) * a + b * a := by
  induction b with
  | coe b => rw [← EReal.coe_add, ← EReal.coe_mul, ← EReal.coe_mul, ← EReal.coe_mul, ← EReal.coe_add, add_mul]
  | top =>
    rw [EReal.coe_add_top]
    rcases lt_trichotomy a 0 with h | rfl | h
    · rw [EReal.top_mul_coe_of_neg h, EReal.add_bot]
    · simp
    · rw [EReal.top_mul_coe_of_pos h, ← EReal.coe_mul, EReal.coe_add_top]
  | bot =>
    rw [EReal.add_bot]
    rcases lt_trichotomy a 0 with h | rfl | h
    · rw [EReal.bot_mul_coe_of_neg h, ← EReal.coe_mul, EReal.coe_add_top]
    · simp
    · rw [EReal.bot_mul_coe_of_pos h, EReal.add_bot]

/-- Two linear maps one after the other, of real rows and weights, are the one map with the composed weight and bias;
    the biases are any. -/
theorem lin_lin {m k n p : Nat} {x : Mat m k} {W : Mat n k} (b : Row n) {A : Mat p n} (c : Row p)
    (hx : Reals x) (hW : Reals W) (hA : Reals A) :
    lin (lin x W b) A c = lin x (compW A W) (compB A c b) := by
  obtain ⟨x, rfl⟩ := hx.choose; obtain ⟨W, rfl⟩ := hW.choose; obtain ⟨A, rfl⟩ := hA.choose
  funext j
  simp only [lin, compW, compB]
  rw [← add_assoc]
  congr 1
  simp only [← EReal.coe_mul, ← coe_sum, real_add_mul, Finset.sum_add_distrib]
  congr 2
  simp only [Finset.sum_mul, Finset.mul_sum]
  rw [Finset.sum_comm]
  refine Finset.sum_congr rfl fun q _ => Finset.sum_congr rfl fun r _ => ?_
  show x (ix2 (j 0) q) * W (ix2 r q) * A (ix2 (j 1) r) = x (ix2 (j 0) q) * (A (ix2 (j 1) r) * W (ix2 r q))
  ring

end Cert.Net
-- ==== Proof.Ops.lean ====
/- The array operations the two programs are written in, read as the maps of Linear.lean: a matrix product with a transposed
   weight plus a broadcast bias is `lin`, a slice and a reshape of a stack of weights is one weight of the stack, and so on. -/
module

public import proofs.«01_k».proof.Proof.Linear

@[expose] public section

noncomputable section

open Idealize.ShloMosaic
open scoped BigOperators

namespace Cert.Net

/-- The shapes of a matrix, and of a vector. -/
abbrev M2 (m n : Nat) : Shape := ⟨2, ![m, n]⟩
/-- The shape of a vector. -/
abbrev V1 (n : Nat) : Shape := ⟨1, ![n]⟩

/-- The transpose of a matrix, and a vector as a matrix of one row. -/
def tr {m n : Nat} (W : Mat m n) : Mat n m := fun j => W (ix2 (j 1) (j 0))
/-- A vector as a matrix of one row. -/
def asRow {n : Nat} (b : Row n) : Mat 1 n := fun j => b (ix1 (j 1))

/-- `x @ wT + b1`: the linear map with its weight already transposed and its bias a row. -/
def linT {m k n : Nat} (x : Mat m k) (wT : Mat k n) (b1 : Mat 1 n) : Mat m n :=
  fun j => (∑ q : Fin k, x (ix2 (j 0) q) * wT (ix2 q (j 1))) + b1 (ix2 0 (j 1))

/-- The linear map, its weight transposed and its bias made a row, is the linear map. -/
theorem linT_tr {m k n : Nat} (x : Mat m k) (W : Mat n k) (b : Row n) : linT x (tr W) (asRow b) = lin x W b := rfl

/-- `max(x, 0)`, entry by entry. -/
def relu {ι : Type} (x : ι → EReal) : ι → EReal := fun j => max (x j) 0

/-- The rectified reals are reals. -/
theorem relu_reals {ι : Type} {x : ι → EReal} (h : Reals x) : Reals (relu x) := fun j => real_max (h j) ⟨0, rfl⟩

/-- One step of the recurrent layer: `tanh (x @ wT + b1 + h @ uT + b2)`. -/
def cell {m : Nat} (x : Mat m 512) (wT : Mat 512 512) (b1 : Mat 1 512) (h : Mat m 512) (uT : Mat 512 512) (b2 : Mat 1 512) : Mat m 512 :=
  fun j => Ideal.tanh (linT x wT b1 j + (∑ q : Fin 512, h (ix2 (j 0) q) * uT (ix2 q (j 1))) + b2 (ix2 0 (j 1)))

/-! ## The reference's spellings -/

section Host

/-- The host's `x @ W.T + b`, 24000 rows of 256 entries. -/
theorem hostLin_a (x : FVec Ideal (M2 24000 256) .f32) (W : FVec Ideal (M2 512 256) .f32) (b : FVec Ideal (V1 512) .f32)
    (ht : (M2 512 256).Transposes [1, 0] (M2 256 512)) (h1 : (V1 512).BroadcastsInDim (M2 1 512) ![1])
    (h2 : (M2 1 512).BroadcastsInDim (M2 24000 512) ![0, 1]) :
    addf (Host.dotGeneral (DotDims.plain 24000 256 512) none x (transpose (M2 256 512) [1, 0] W ht))
      (broadcastInDim (M2 24000 512) ![0, 1] h2 (broadcastInDim (M2 1 512) ![1] h1 b)) = lin x W b := by
  funext j; idx_vars j; unfold lin; pointwise

/-- The host's `x @ W.T + b`, 24000 rows of 512 entries. -/
theorem hostLin_b (x : FVec Ideal (M2 24000 512) .f32) (W : FVec Ideal (M2 512 512) .f32) (b : FVec Ideal (V1 512) .f32)
    (ht : (M2 512 512).Transposes [1, 0] (M2 512 512)) (h1 : (V1 512).BroadcastsInDim (M2 1 512) ![1])
    (h2 : (M2 1 512).BroadcastsInDim (M2 24000 512) ![0, 1]) :
    addf (Host.dotGeneral (DotDims.plain 24000 512 512) none x (transpose (M2 512 512) [1, 0] W ht))
      (broadcastInDim (M2 24000 512) ![0, 1] h2 (broadcastInDim (M2 1 512) ![1] h1 b)) = lin x W b := by
  funext j; idx_vars j; unfold lin; pointwise

/-- The host's `x @ W.T + b`, 5600 rows of 512 entries. -/
theorem hostLin_c (x : FVec Ideal (M2 5600 512) .f32) (W : FVec Ideal (M2 512 512) .f32) (b : FVec Ideal (V1 512) .f32)
    (ht : (M2 512 512).Transposes [1, 0] (M2 512 512)) (h1 : (V1 512).BroadcastsInDim (M2 1 512) ![1])
    (h2 : (M2 1 512).BroadcastsInDim (M2 5600 512) ![0, 1]) :
    addf (Host.dotGeneral (DotDims.plain 5600 512 512) none x (transpose (M2 512 512) [1, 0] W ht))
      (broadcastInDim (M2 5600 512) ![0, 1] h2 (broadcastInDim (M2 1 512) ![1] h1 b)) = lin x W b := by
  funext j; idx_vars j; unfold lin; pointwise

/-- The host's scores: 16 rows of 512 entries to one number each. -/
theorem hostLin_d (x : FVec Ideal (M2 16 512) .f32) (W : FVec Ideal (M2 1 512) .f32) (b : FVec Ideal (V1 1) .f32)
    (ht : (M2 1 512).Transposes [1, 0] (M2 512 1)) (h1 : (V1 1).BroadcastsInDim (M2 1 1) ![1])
    (h2 : (M2 1 1).BroadcastsInDim (M2 16 1) ![0, 1]) :
    addf (Host.dotGeneral (DotDims.plain 16 512 1) none x (transpose (M2 512 1) [1, 0] W ht))
      (broadcastInDim (M2 16 1) ![0, 1] h2 (broadcastInDim (M2 1 1) ![1] h1 b)) = linT x (tr W) (asRow b) := by
  funext j; idx_vars j; obtain rfl : j1 = 0 := Subsingleton.elim _ _
  unfold linT tr asRow; pointwise

/-- The host's step of the recurrent layer. -/
theorem hostCell (x h : FVec Ideal (M2 16 512) .f32) (W U : FVec Ideal (M2 512 512) .f32) (b b' : FVec Ideal (V1 512) .f32)
    (ht ht' : (M2 512 512).Transposes [1, 0] (M2 512 512)) (h1 h1' : (V1 512).BroadcastsInDim (M2 1 512) ![1])
    (h2 h2' : (M2 1 512).BroadcastsInDim (M2 16 512) ![0, 1]) :
    Host.tanh (addf (addf (addf (Host.dotGeneral (DotDims.plain 16 512 512) none x (transpose (M2 512 512) [1, 0] W ht))
      (broadcastInDim (M2 16 512) ![0, 1] h2 (broadcastInDim (M2 1 512) ![1] h1 b)))
      (Host.dotGeneral (DotDims.plain 16 512 512) none h (transpose (M2 512 512) [1, 0] U ht')))
      (broadcastInDim (M2 16 512) ![0, 1] h2' (broadcastInDim (M2 1 512) ![1] h1' b')))
      = cell x (tr W) (asRow b) h (tr U) (asRow b') := by
  funext j; idx_vars j; unfold cell linT tr asRow; pointwise

end Host

/-! ## The kernel's spellings -/

section Kernel

/-- The host's `A @ W` for the word map (512 by 512 into 512 by 256). -/
theorem hostComp_a (A : FVec Ideal (M2 512 512) .f32) (W : FVec Ideal (M2 512 256) .f32) :
    Host.dotGeneral (DotDims.plain 512 512 256) none A W = compW A W := by
  funext j; idx_vars j; unfold compW; pointwise

/-- The host's `A @ W` for two 512 by 512 maps. -/
theorem hostComp_b (A W : FVec Ideal (M2 512 512) .f32) :
    Host.dotGeneral (DotDims.plain 512 512 512) none A W = compW A W := by
  funext j; idx_vars j; unfold compW; pointwise

/-- A product's matrix read at an index: the sum over the contracted axis plus the bias row. -/
theorem kerLin_a (x : FVec Ideal (M2 2048 256) .f32) (w : FVec Ideal (M2 256 512) .f32) (b : FVec Ideal (M2 1 512) .f32)
    (hx : (M2 2048 256).ShapeCasts (M2 2048 256)) (hw : (M2 256 512).ShapeCasts (M2 256 512))
    (hb : (M2 1 512).ShapeCasts (M2 1 512)) (hc : (M2 1 512).Broadcasts (M2 2048 512)) :
    addf (matmul (DotDims.plain 2048 256 512) none (shapeCast (M2 2048 256) x hx) (shapeCast (M2 256 512) w hw)
      (constant (M2 2048 512) .f32 0x00000000#32)) (broadcastTo (M2 2048 512) (shapeCast (M2 1 512) b hb) hc) = linT x w b := by
  rw [shapeCast_self, shapeCast_self, shapeCast_self]
  funext j; idx_vars j; unfold linT; pointwise

/-- The same, 512 entries a row. -/
theorem kerLin_b (x : FVec Ideal (M2 2048 512) .f32) (w : FVec Ideal (M2 512 512) .f32) (b : FVec Ideal (M2 1 512) .f32)
    (hx : (M2 2048 512).ShapeCasts (M2 2048 512)) (hw : (M2 512 512).ShapeCasts (M2 512 512))
    (hb : (M2 1 512).ShapeCasts (M2 1 512)) (hc : (M2 1 512).Broadcasts (M2 2048 512)) :
    addf (matmul (DotDims.plain 2048 512 512) none (shapeCast (M2 2048 512) x hx) (shapeCast (M2 512 512) w hw)
      (constant (M2 2048 512) .f32 0x00000000#32)) (broadcastTo (M2 2048 512) (shapeCast (M2 1 512) b hb) hc) = linT x w b := by
  rw [shapeCast_self, shapeCast_self, shapeCast_self]
  funext j; idx_vars j; unfold linT; pointwise

/-- The same with the rows rectified first. -/
theorem kerLin_c (x : FVec Ideal (M2 2048 512) .f32) (w : FVec Ideal (M2 512 512) .f32) (b : FVec Ideal (M2 1 512) .f32)
    (hx : (M2 2048 512).ShapeCasts (M2 2048 512)) (hw : (M2 512 512).ShapeCasts (M2 512 512))
    (hb : (M2 1 512).ShapeCasts (M2 1 512)) (hc : (M2 1 512).Broadcasts (M2 2048 512)) :
    addf (matmul (DotDims.plain 2048 512 512) none (maximumf (shapeCast (M2 2048 512) x hx)
      (broadcast (M2 2048 512) (Scalar.ofBits .f32 0x00000000#32))) (shapeCast (M2 512 512) w hw)
      (constant (M2 2048 512) .f32 0x00000000#32)) (broadcastTo (M2 2048 512) (shapeCast (M2 1 512) b hb) hc) = linT (relu x) w b := by
  rw [shapeCast_self, shapeCast_self, shapeCast_self]
  funext j; idx_vars j; unfold linT relu; pointwise

/-- The kernel's step of the recurrent layer. -/
theorem kerCell (x h : FVec Ideal (M2 16 512) .f32) (w u : FVec Ideal (M2 512 512) .f32) (b b' : FVec Ideal (M2 1 512) .f32)
    (hc hc' : (M2 1 512).Broadcasts (M2 16 512)) :
    tanh (addf (addf (addf (matmul (DotDims.plain 16 512 512) none x w (constant (M2 16 512) .f32 0x00000000#32))
      (broadcastTo (M2 16 512) b hc)) (matmul (DotDims.plain 16 512 512) none h u (constant (M2 16 512) .f32 0x00000000#32)))
      (broadcastTo (M2 16 512) b' hc')) = cell x w b h u b' := by
  funext j; idx_vars j; unfold cell linT; pointwise

/-- The kernel's scores. -/
theorem kerLin_d (x : FVec Ideal (M2 16 512) .f32) (w : FVec Ideal (M2 512 1) .f32) (b : FVec Ideal (M2 1 1) .f32)
    (hw : (M2 512 1).ShapeCasts (M2 512 1)) (hb : (M2 1 1).ShapeCasts (M2 1 1)) (hc : (M2 1 1).Broadcasts (M2 16 1)) :
    addf (matmul (DotDims.plain 16 512 1) none x (shapeCast (M2 512 1) w hw)
      (constant (M2 16 1) .f32 0x00000000#32)) (broadcastTo (M2 16 1) (shapeCast (M2 1 1) b hb) hc) = linT x w b := by
  rw [shapeCast_self, shapeCast_self]
  funext j; idx_vars j; obtain rfl : j1 = 0 := Subsingleton.elim _ _
  unfold linT; pointwise

/-- The host's `b @ A.T + c`: the bias of the composed map. -/
theorem hostCompB (d : DotDims (V1 512) (M2 512 512) (V1 512)) (hd : d.lhsContracting = [0] ∧ d.rhsContracting = [0]
      ∧ d.lhsNonContracting = [] ∧ d.rhsNonContracting = [1] ∧ d.lhsBatch = [] ∧ d.rhsBatch = [])
    (A : FVec Ideal (M2 512 512) .f32) (c b : FVec Ideal (V1 512) .f32) (ht : (M2 512 512).Transposes [1, 0] (M2 512 512)) :
    addf (Host.dotGeneral d none b (transpose (M2 512 512) [1, 0] A ht)) c = compB A c b := by
  obtain ⟨e1, e2, e3, e4, e5, e6⟩ := hd
  rcases d with ⟨_, _, _, _, _, _, wf⟩
  dsimp only at e1 e2 e3 e4 e5 e6
  subst e1 e2 e3 e4 e5 e6
  funext j; idx_vars j; unfold compB; pointwise

end Kernel

/-! ## Stacks of weights -/

section Stack

/-- Weight `(l, e)` and bias `(l, e)` of the stacks of graph layers; weight `l` and bias `l` of the recurrent ones. -/
def wt (W : (⟨4, ![2, 5, 512, 512]⟩ : Shape).Idx → EReal) (l : Fin 2) (e : Fin 5) : Mat 512 512 := fun j => W (ix4 l e (j 0) (j 1))
/-- Bias `(l, e)` of the stack of the graph layers. -/
def bs (b : (⟨3, ![2, 5, 512]⟩ : Shape).Idx → EReal) (l : Fin 2) (e : Fin 5) : Row 512 := fun j => b (ix3 l e (j 0))
/-- Weight `l` of the recurrent stack. -/
def rw3 (W : (⟨3, ![2, 512, 512]⟩ : Shape).Idx → EReal) (l : Fin 2) : Mat 512 512 := fun j => W (ix3 l (j 0) (j 1))
/-- Bias `l` of the recurrent stack. -/
def rb2 (b : (⟨2, ![2, 512]⟩ : Shape).Idx → EReal) (l : Fin 2) : Row 512 := fun j => b (ix2 l (j 0))

variable (W : FVec Ideal (⟨4, ![2, 5, 512, 512]⟩ : Shape) .f32) (b : FVec Ideal (⟨3, ![2, 5, 512]⟩ : Shape) .f32)

/-- Weight (0, 0), cut out of the stack at once. -/
theorem wt1_00 (h : (⟨4, ![2, 5, 512, 512]⟩ : Shape).Slices ![0, 0, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![0, 0, 0, 0] W h) h' = wt W 0 0 := by
  funext j; idx_vars j; unfold wt; pointwise

/-- Weight (0, 0), cut out of its layer's stack. -/
theorem wt2_00 (h : (⟨4, ![2, 5, 512, 512]⟩ : Shape).Slices ![0, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![0, 0, 0] ⟨3, ![1, 512, 512]⟩)
    (h3 : (⟨3, ![1, 512, 512]⟩ : Shape).ShapeCasts (M2 512 512)) :
    shapeCast (M2 512 512) (extractStridedSlice ⟨3, ![1, 512, 512]⟩ ![0, 0, 0] (shapeCast ⟨3, ![5, 512, 512]⟩
      (extractStridedSlice ⟨4, ![1, 5, 512, 512]⟩ ![0, 0, 0, 0] W h) h') h2) h3 = wt W 0 0 := by
  funext j; idx_vars j; unfold wt; pointwise

/-- Bias (0, 0), cut out of the stack at once. -/
theorem bs1_00 (h : (⟨3, ![2, 5, 512]⟩ : Shape).Slices ![0, 0, 0] ⟨3, ![1, 1, 512]⟩)
    (h' : (⟨3, ![1, 1, 512]⟩ : Shape).ShapeCasts (V1 512)) :
    shapeCast (V1 512) (extractStridedSlice ⟨3, ![1, 1, 512]⟩ ![0, 0, 0] b h) h' = bs b 0 0 := by
  funext j; idx_vars j; unfold bs; pointwise

/-- Bias (0, 0), cut out of its layer's stack. -/
theorem bs2_00 (h : (⟨3, ![2, 5, 512]⟩ : Shape).Slices ![0, 0, 0] ⟨3, ![1, 5, 512]⟩)
    (h' : (⟨3, ![1, 5, 512]⟩ : Shape).ShapeCasts (M2 5 512)) (h2 : (M2 5 512).Slices ![0, 0] (M2 1 512))
    (h3 : (M2 1 512).ShapeCasts (V1 512)) :
    shapeCast (V1 512) (extractStridedSlice (M2 1 512) ![0, 0] (shapeCast (M2 5 512)
      (extractStridedSlice ⟨3, ![1, 5, 512]⟩ ![0, 0, 0] b h) h') h2) h3 = bs b 0 0 := by
  funext j; idx_vars j; unfold bs; pointwise

/-- Weight (0, 1), cut out of the stack at once. -/
theorem wt1_01 (h : (⟨4, ![2, 5, 512, 512]⟩ : Shape).Slices ![0, 1, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![0, 1, 0, 0] W h) h' = wt W 0 1 := by
  funext j; idx_vars j; unfold wt; pointwise

/-- Weight (0, 1), cut out of its layer's stack. -/
theorem wt2_01 (h : (⟨4, ![2, 5, 512, 512]⟩ : Shape).Slices ![0, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![1, 0, 0] ⟨3, ![1, 512, 512]⟩)
    (h3 : (⟨3, ![1, 512, 512]⟩ : Shape).ShapeCasts (M2 512 512)) :
    shapeCast (M2 512 512) (extractStridedSlice ⟨3, ![1, 512, 512]⟩ ![1, 0, 0] (shapeCast ⟨3, ![5, 512, 512]⟩
      (extractStridedSlice ⟨4, ![1, 5, 512, 512]⟩ ![0, 0, 0, 0] W h) h') h2) h3 = wt W 0 1 := by
  funext j; idx_vars j; unfold wt; pointwise

/-- Bias (0, 1), cut out of the stack at once. -/
theorem bs1_01 (h : (⟨3, ![2, 5, 512]⟩ : Shape).Slices ![0, 1, 0] ⟨3, ![1, 1, 512]⟩)
    (h' : (⟨3, ![1, 1, 512]⟩ : Shape).ShapeCasts (V1 512)) :
    shapeCast (V1 512) (extractStridedSlice ⟨3, ![1, 1, 512]⟩ ![0, 1, 0] b h) h' = bs b 0 1 := by
  funext j; idx_vars j; unfold bs; pointwise

/-- Bias (0, 1), cut out of its layer's stack. -/
theorem bs2_01 (h : (⟨3, ![2, 5, 512]⟩ : Shape).Slices ![0, 0, 0] ⟨3, ![1, 5, 512]⟩)
    (h' : (⟨3, ![1, 5, 512]⟩ : Shape).ShapeCasts (M2 5 512)) (h2 : (M2 5 512).Slices ![1, 0] (M2 1 512))
    (h3 : (M2 1 512).ShapeCasts (V1 512)) :
    shapeCast (V1 512) (extractStridedSlice (M2 1 512) ![1, 0] (shapeCast (M2 5 512)
      (extractStridedSlice ⟨3, ![1, 5, 512]⟩ ![0, 0, 0] b h) h') h2) h3 = bs b 0 1 := by
  funext j; idx_vars j; unfold bs; pointwise

/-- Weight (0, 2), cut out of the stack at once. -/
theorem wt1_02 (h : (⟨4, ![2, 5, 512, 512]⟩ : Shape).Slices ![0, 2, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![0, 2, 0, 0] W h) h' = wt W 0 2 := by
  funext j; idx_vars j; unfold wt; pointwise

/-- Weight (0, 2), cut out of its layer's stack. -/
theorem wt2_02 (h : (⟨4, ![2, 5, 512, 512]⟩ : Shape).Slices ![0, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![2, 0, 0] ⟨3, ![1, 512, 512]⟩)
    (h3 : (⟨3, ![1, 512, 512]⟩ : Shape).ShapeCasts (M2 512 512)) :
    shapeCast (M2 512 512) (extractStridedSlice ⟨3, ![1, 512, 512]⟩ ![2, 0, 0] (shapeCast ⟨3, ![5, 512, 512]⟩
      (extractStridedSlice ⟨4, ![1, 5, 512, 512]⟩ ![0, 0, 0, 0] W h) h') h2) h3 = wt W 0 2 := by
  funext j; idx_vars j; unfold wt; pointwise

/-- Bias (0, 2), cut out of the stack at once. -/
theorem bs1_02 (h : (⟨3, ![2, 5, 512]⟩ : Shape).Slices ![0, 2, 0] ⟨3, ![1, 1, 512]⟩)
    (h' : (⟨3, ![1, 1, 512]⟩ : Shape).ShapeCasts (V1 512)) :
    shapeCast (V1 512) (extractStridedSlice ⟨3, ![1, 1, 512]⟩ ![0, 2, 0] b h) h' = bs b 0 2 := by
  funext j; idx_vars j; unfold bs; pointwise

/-- Bias (0, 2), cut out of its layer's stack. -/
theorem bs2_02 (h : (⟨3, ![2, 5, 512]⟩ : Shape).Slices ![0, 0, 0] ⟨3, ![1, 5, 512]⟩)
    (h' : (⟨3, ![1, 5, 512]⟩ : Shape).ShapeCasts (M2 5 512)) (h2 : (M2 5 512).Slices ![2, 0] (M2 1 512))
    (h3 : (M2 1 512).ShapeCasts (V1 512)) :
    shapeCast (V1 512) (extractStridedSlice (M2 1 512) ![2, 0] (shapeCast (M2 5 512)
      (extractStridedSlice ⟨3, ![1, 5, 512]⟩ ![0, 0, 0] b h) h') h2) h3 = bs b 0 2 := by
  funext j; idx_vars j; unfold bs; pointwise

/-- Weight (0, 3), cut out of the stack at once. -/
theorem wt1_03 (h : (⟨4, ![2, 5, 512, 512]⟩ : Shape).Slices ![0, 3, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![0, 3, 0, 0] W h) h' = wt W 0 3 := by
  funext j; idx_vars j; unfold wt; pointwise

/-- Weight (0, 3), cut out of its layer's stack. -/
theorem wt2_03 (h : (⟨4, ![2, 5, 512, 512]⟩ : Shape).Slices ![0, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![3, 0, 0] ⟨3, ![1, 512, 512]⟩)
    (h3 : (⟨3, ![1, 512, 512]⟩ : Shape).ShapeCasts (M2 512 512)) :
    shapeCast (M2 512 512) (extractStridedSlice ⟨3, ![1, 512, 512]⟩ ![3, 0, 0] (shapeCast ⟨3, ![5, 512, 512]⟩
      (extractStridedSlice ⟨4, ![1, 5, 512, 512]⟩ ![0, 0, 0, 0] W h) h') h2) h3 = wt W 0 3 := by
  funext j; idx_vars j; unfold wt; pointwise

/-- Bias (0, 3), cut out of the stack at once. -/
theorem bs1_03 (h : (⟨3, ![2, 5, 512]⟩ : Shape).Slices ![0, 3, 0] ⟨3, ![1, 1, 512]⟩)
    (h' : (⟨3, ![1, 1, 512]⟩ : Shape).ShapeCasts (V1 512)) :
    shapeCast (V1 512) (extractStridedSlice ⟨3, ![1, 1, 512]⟩ ![0, 3, 0] b h) h' = bs b 0 3 := by
  funext j; idx_vars j; unfold bs; pointwise

/-- Bias (0, 3), cut out of its layer's stack. -/
theorem bs2_03 (h : (⟨3, ![2, 5, 512]⟩ : Shape).Slices ![0, 0, 0] ⟨3, ![1, 5, 512]⟩)
    (h' : (⟨3, ![1, 5, 512]⟩ : Shape).ShapeCasts (M2 5 512)) (h2 : (M2 5 512).Slices ![3, 0] (M2 1 512))
    (h3 : (M2 1 512).ShapeCasts (V1 512)) :
    shapeCast (V1 512) (extractStridedSlice (M2 1 512) ![3, 0] (shapeCast (M2 5 512)
      (extractStridedSlice ⟨3, ![1, 5, 512]⟩ ![0, 0, 0] b h) h') h2) h3 = bs b 0 3 := by
  funext j; idx_vars j; unfold bs; pointwise

/-- Weight (0, 4), cut out of the stack at once. -/
theorem wt1_04 (h : (⟨4, ![2, 5, 512, 512]⟩ : Shape).Slices ![0, 4, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![0, 4, 0, 0] W h) h' = wt W 0 4 := by
  funext j; idx_vars j; unfold wt; pointwise

/-- Weight (0, 4), cut out of its layer's stack. -/
theorem wt2_04 (h : (⟨4, ![2, 5, 512, 512]⟩ : Shape).Slices ![0, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![4, 0, 0] ⟨3, ![1, 512, 512]⟩)
    (h3 : (⟨3, ![1, 512, 512]⟩ : Shape).ShapeCasts (M2 512 512)) :
    shapeCast (M2 512 512) (extractStridedSlice ⟨3, ![1, 512, 512]⟩ ![4, 0, 0] (shapeCast ⟨3, ![5, 512, 512]⟩
      (extractStridedSlice ⟨4, ![1, 5, 512, 512]⟩ ![0, 0, 0, 0] W h) h') h2) h3 = wt W 0 4 := by
  funext j; idx_vars j; unfold wt; pointwise

/-- Bias (0, 4), cut out of the stack at once. -/
theorem bs1_04 (h : (⟨3, ![2, 5, 512]⟩ : Shape).Slices ![0, 4, 0] ⟨3, ![1, 1, 512]⟩)
    (h' : (⟨3, ![1, 1, 512]⟩ : Shape).ShapeCasts (V1 512)) :
    shapeCast (V1 512) (extractStridedSlice ⟨3, ![1, 1, 512]⟩ ![0, 4, 0] b h) h' = bs b 0 4 := by
  funext j; idx_vars j; unfold bs; pointwise

/-- Bias (0, 4), cut out of its layer's stack. -/
theorem bs2_04 (h : (⟨3, ![2, 5, 512]⟩ : Shape).Slices ![0, 0, 0] ⟨3, ![1, 5, 512]⟩)
    (h' : (⟨3, ![1, 5, 512]⟩ : Shape).ShapeCasts (M2 5 512)) (h2 : (M2 5 512).Slices ![4, 0] (M2 1 512))
    (h3 : (M2 1 512).ShapeCasts (V1 512)) :
    shapeCast (V1 512) (extractStridedSlice (M2 1 512) ![4, 0] (shapeCast (M2 5 512)
      (extractStridedSlice ⟨3, ![1, 5, 512]⟩ ![0, 0, 0] b h) h') h2) h3 = bs b 0 4 := by
  funext j; idx_vars j; unfold bs; pointwise

/-- Weight (1, 0), cut out of the stack at once. -/
theorem wt1_10 (h : (⟨4, ![2, 5, 512, 512]⟩ : Shape).Slices ![1, 0, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![1, 0, 0, 0] W h) h' = wt W 1 0 := by
  funext j; idx_vars j; unfold wt; pointwise

/-- Weight (1, 0), cut out of its layer's stack. -/
theorem wt2_10 (h : (⟨4, ![2, 5, 512, 512]⟩ : Shape).Slices ![1, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![0, 0, 0] ⟨3, ![1, 512, 512]⟩)
    (h3 : (⟨3, ![1, 512, 512]⟩ : Shape).ShapeCasts (M2 512 512)) :
    shapeCast (M2 512 512) (extractStridedSlice ⟨3, ![1, 512, 512]⟩ ![0, 0, 0] (shapeCast ⟨3, ![5, 512, 512]⟩
      (extractStridedSlice ⟨4, ![1, 5, 512, 512]⟩ ![1, 0, 0, 0] W h) h') h2) h3 = wt W 1 0 := by
  funext j; idx_vars j; unfold wt; pointwise

/-- Bias (1, 0), cut out of the stack at once. -/
theorem bs1_10 (h : (⟨3, ![2, 5, 512]⟩ : Shape).Slices ![1, 0, 0] ⟨3, ![1, 1, 512]⟩)
    (h' : (⟨3, ![1, 1, 512]⟩ : Shape).ShapeCasts (V1 512)) :
    shapeCast (V1 512) (extractStridedSlice ⟨3, ![1, 1, 512]⟩ ![1, 0, 0] b h) h' = bs b 1 0 := by
  funext j; idx_vars j; unfold bs; pointwise

/-- Bias (1, 0), cut out of its layer's stack. -/
theorem bs2_10 (h : (⟨3, ![2, 5, 512]⟩ : Shape).Slices ![1, 0, 0] ⟨3, ![1, 5, 512]⟩)
    (h' : (⟨3, ![1, 5, 512]⟩ : Shape).ShapeCasts (M2 5 512)) (h2 : (M2 5 512).Slices ![0, 0] (M2 1 512))
    (h3 : (M2 1 512).ShapeCasts (V1 512)) :
    shapeCast (V1 512) (extractStridedSlice (M2 1 512) ![0, 0] (shapeCast (M2 5 512)
      (extractStridedSlice ⟨3, ![1, 5, 512]⟩ ![1, 0, 0] b h) h') h2) h3 = bs b 1 0 := by
  funext j; idx_vars j; unfold bs; pointwise

/-- Weight (1, 1), cut out of the stack at once. -/
theorem wt1_11 (h : (⟨4, ![2, 5, 512, 512]⟩ : Shape).Slices ![1, 1, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![1, 1, 0, 0] W h) h' = wt W 1 1 := by
  funext j; idx_vars j; unfold wt; pointwise

/-- Weight (1, 1), cut out of its layer's stack. -/
theorem wt2_11 (h : (⟨4, ![2, 5, 512, 512]⟩ : Shape).Slices ![1, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![1, 0, 0] ⟨3, ![1, 512, 512]⟩)
    (h3 : (⟨3, ![1, 512, 512]⟩ : Shape).ShapeCasts (M2 512 512)) :
    shapeCast (M2 512 512) (extractStridedSlice ⟨3, ![1, 512, 512]⟩ ![1, 0, 0] (shapeCast ⟨3, ![5, 512, 512]⟩
      (extractStridedSlice ⟨4, ![1, 5, 512, 512]⟩ ![1, 0, 0, 0] W h) h') h2) h3 = wt W 1 1 := by
  funext j; idx_vars j; unfold wt; pointwise

/-- Bias (1, 1), cut out of the stack at once. -/
theorem bs1_11 (h : (⟨3, ![2, 5, 512]⟩ : Shape).Slices ![1, 1, 0] ⟨3, ![1, 1, 512]⟩)
    (h' : (⟨3, ![1, 1, 512]⟩ : Shape).ShapeCasts (V1 512)) :
    shapeCast (V1 512) (extractStridedSlice ⟨3, ![1, 1, 512]⟩ ![1, 1, 0] b h) h' = bs b 1 1 := by
  funext j; idx_vars j; unfold bs; pointwise

/-- Bias (1, 1), cut out of its layer's stack. -/
theorem bs2_11 (h : (⟨3, ![2, 5, 512]⟩ : Shape).Slices ![1, 0, 0] ⟨3, ![1, 5, 512]⟩)
    (h' : (⟨3, ![1, 5, 512]⟩ : Shape).ShapeCasts (M2 5 512)) (h2 : (M2 5 512).Slices ![1, 0] (M2 1 512))
    (h3 : (M2 1 512).ShapeCasts (V1 512)) :
    shapeCast (V1 512) (extractStridedSlice (M2 1 512) ![1, 0] (shapeCast (M2 5 512)
      (extractStridedSlice ⟨3, ![1, 5, 512]⟩ ![1, 0, 0] b h) h') h2) h3 = bs b 1 1 := by
  funext j; idx_vars j; unfold bs; pointwise

/-- Weight (1, 2), cut out of the stack at once. -/
theorem wt1_12 (h : (⟨4, ![2, 5, 512, 512]⟩ : Shape).Slices ![1, 2, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![1, 2, 0, 0] W h) h' = wt W 1 2 := by
  funext j; idx_vars j; unfold wt; pointwise

/-- Weight (1, 2), cut out of its layer's stack. -/
theorem wt2_12 (h : (⟨4, ![2, 5, 512, 512]⟩ : Shape).Slices ![1, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![2, 0, 0] ⟨3, ![1, 512, 512]⟩)
    (h3 : (⟨3, ![1, 512, 512]⟩ : Shape).ShapeCasts (M2 512 512)) :
    shapeCast (M2 512 512) (extractStridedSlice ⟨3, ![1, 512, 512]⟩ ![2, 0, 0] (shapeCast ⟨3, ![5, 512, 512]⟩
      (extractStridedSlice ⟨4, ![1, 5, 512, 512]⟩ ![1, 0, 0, 0] W h) h') h2) h3 = wt W 1 2 := by
  funext j; idx_vars j; unfold wt; pointwise

/-- Bias (1, 2), cut out of the stack at once. -/
theorem bs1_12 (h : (⟨3, ![2, 5, 512]⟩ : Shape).Slices ![1, 2, 0] ⟨3, ![1, 1, 512]⟩)
    (h' : (⟨3, ![1, 1, 512]⟩ : Shape).ShapeCasts (V1 512)) :
    shapeCast (V1 512) (extractStridedSlice ⟨3, ![1, 1, 512]⟩ ![1, 2, 0] b h) h' = bs b 1 2 := by
  funext j; idx_vars j; unfold bs; pointwise

/-- Bias (1, 2), cut out of its layer's stack. -/
theorem bs2_12 (h : (⟨3, ![2, 5, 512]⟩ : Shape).Slices ![1, 0, 0] ⟨3, ![1, 5, 512]⟩)
    (h' : (⟨3, ![1, 5, 512]⟩ : Shape).ShapeCasts (M2 5 512)) (h2 : (M2 5 512).Slices ![2, 0] (M2 1 512))
    (h3 : (M2 1 512).ShapeCasts (V1 512)) :
    shapeCast (V1 512) (extractStridedSlice (M2 1 512) ![2, 0] (shapeCast (M2 5 512)
      (extractStridedSlice ⟨3, ![1, 5, 512]⟩ ![1, 0, 0] b h) h') h2) h3 = bs b 1 2 := by
  funext j; idx_vars j; unfold bs; pointwise

/-- Weight (1, 3), cut out of the stack at once. -/
theorem wt1_13 (h : (⟨4, ![2, 5, 512, 512]⟩ : Shape).Slices ![1, 3, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![1, 3, 0, 0] W h) h' = wt W 1 3 := by
  funext j; idx_vars j; unfold wt; pointwise

/-- Weight (1, 3), cut out of its layer's stack. -/
theorem wt2_13 (h : (⟨4, ![2, 5, 512, 512]⟩ : Shape).Slices ![1, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![3, 0, 0] ⟨3, ![1, 512, 512]⟩)
    (h3 : (⟨3, ![1, 512, 512]⟩ : Shape).ShapeCasts (M2 512 512)) :
    shapeCast (M2 512 512) (extractStridedSlice ⟨3, ![1, 512, 512]⟩ ![3, 0, 0] (shapeCast ⟨3, ![5, 512, 512]⟩
      (extractStridedSlice ⟨4, ![1, 5, 512, 512]⟩ ![1, 0, 0, 0] W h) h') h2) h3 = wt W 1 3 := by
  funext j; idx_vars j; unfold wt; pointwise

/-- Bias (1, 3), cut out of the stack at once. -/
theorem bs1_13 (h : (⟨3, ![2, 5, 512]⟩ : Shape).Slices ![1, 3, 0] ⟨3, ![1, 1, 512]⟩)
    (h' : (⟨3, ![1, 1, 512]⟩ : Shape).ShapeCasts (V1 512)) :
    shapeCast (V1 512) (extractStridedSlice ⟨3, ![1, 1, 512]⟩ ![1, 3, 0] b h) h' = bs b 1 3 := by
  funext j; idx_vars j; unfold bs; pointwise

/-- Bias (1, 3), cut out of its layer's stack. -/
theorem bs2_13 (h : (⟨3, ![2, 5, 512]⟩ : Shape).Slices ![1, 0, 0] ⟨3, ![1, 5, 512]⟩)
    (h' : (⟨3, ![1, 5, 512]⟩ : Shape).ShapeCasts (M2 5 512)) (h2 : (M2 5 512).Slices ![3, 0] (M2 1 512))
    (h3 : (M2 1 512).ShapeCasts (V1 512)) :
    shapeCast (V1 512) (extractStridedSlice (M2 1 512) ![3, 0] (shapeCast (M2 5 512)
      (extractStridedSlice ⟨3, ![1, 5, 512]⟩ ![1, 0, 0] b h) h') h2) h3 = bs b 1 3 := by
  funext j; idx_vars j; unfold bs; pointwise

/-- Weight (1, 4), cut out of the stack at once. -/
theorem wt1_14 (h : (⟨4, ![2, 5, 512, 512]⟩ : Shape).Slices ![1, 4, 0, 0] ⟨4, ![1, 1, 512, 512]⟩)
    (h' : (⟨4, ![1, 1, 512, 512]⟩ : Shape).ShapeCasts (M2 512 512)) :
    shapeCast (M2 512 512) (extractStridedSlice ⟨4, ![1, 1, 512, 512]⟩ ![1, 4, 0, 0] W h) h' = wt W 1 4 := by
  funext j; idx_vars j; unfold wt; pointwise

/-- Weight (1, 4), cut out of its layer's stack. -/
theorem wt2_14 (h : (⟨4, ![2, 5, 512, 512]⟩ : Shape).Slices ![1, 0, 0, 0] ⟨4, ![1, 5, 512, 512]⟩)
    (h' : (⟨4, ![1, 5, 512, 512]⟩ : Shape).ShapeCasts ⟨3, ![5, 512, 512]⟩)
    (h2 : (⟨3, ![5, 512, 512]⟩ : Shape).Slices ![4, 0, 0] ⟨3, ![1, 512, 512]⟩)
    (h3 : (⟨3, ![1, 512, 512]⟩ : Shape).ShapeCasts (M2 512 512)) :
    shapeCast (M2 512 512) (extractStridedSlice ⟨3, ![1, 512, 512]⟩ ![4, 0, 0] (shapeCast ⟨3, ![5, 512, 512]⟩
      (extractStridedSlice ⟨4, ![1, 5, 512, 512]⟩ ![1, 0, 0, 0] W h) h') h2) h3 = wt W 1 4 := by
  funext j; idx_vars j; unfold wt; pointwise

/-- Bias (1, 4), cut out of the stack at once. -/
theorem bs1_14 (h : (⟨3, ![2, 5, 512]⟩ : Shape).Slices ![1, 4, 0] ⟨3, ![1, 1, 512]⟩)
    (h' : (⟨3, ![1, 1, 512]⟩ : Shape).ShapeCasts (V1 512)) :
    shapeCast (V1 512) (extractStridedSlice ⟨3, ![1, 1, 512]⟩ ![1, 4, 0] b h) h' = bs b 1 4 := by
  funext j; idx_vars j; unfold bs; pointwise

/-- Bias (1, 4), cut out of its layer's stack. -/
theorem bs2_14 (h : (⟨3, ![2, 5, 512]⟩ : Shape).Slices ![1, 0, 0] ⟨3, ![1, 5, 512]⟩)
    (h' : (⟨3, ![1, 5, 512]⟩ : Shape).ShapeCasts (M2 5 512)) (h2 : (M2 5 512).Slices ![4, 0] (M2 1 512))
    (h3 : (M2 1 512).ShapeCasts (V1 512)) :
    shapeCast (V1 512) (extractStridedSlice (M2 1 512) ![4, 0] (shapeCast (M2 5 512)
      (extractStridedSlice ⟨3, ![1, 5, 512]⟩ ![1, 0, 0] b h) h') h2) h3 = bs b 1 4 := by
  funext j; idx_vars j; unfold bs; pointwise

/-- Recurrent weight 0. -/
theorem rw3_0 (R : FVec Ideal (⟨3, ![2, 512, 512]⟩ : Shape) .f32) (h : (⟨3, ![2, 512, 512]⟩ : Shape).Slices ![0, 0, 0] ⟨3, ![1, 512, 512]⟩)
    (h' : (⟨3, ![1, 512, 512]⟩ : Shape).ShapeCasts (M2 512 512)) :
    shapeCast (M2 512 512) (extractStridedSlice ⟨3, ![1, 512, 512]⟩ ![0, 0, 0] R h) h' = rw3 R 0 := by
  funext j; idx_vars j; unfold rw3; pointwise

/-- Recurrent bias 0. -/
theorem rb2_0 (r : FVec Ideal (M2 2 512) .f32) (h : (M2 2 512).Slices ![0, 0] (M2 1 512)) (h' : (M2 1 512).ShapeCasts (V1 512)) :
    shapeCast (V1 512) (extractStridedSlice (M2 1 512) ![0, 0] r h) h' = rb2 r 0 := by
  funext j; idx_vars j; unfold rb2; pointwise

/-- Recurrent weight 1. -/
theorem rw3_1 (R : FVec Ideal (⟨3, ![2, 512, 512]⟩ : Shape) .f32) (h : (⟨3, ![2, 512, 512]⟩ : Shape).Slices ![1, 0, 0] ⟨3, ![1, 512, 512]⟩)
    (h' : (⟨3, ![1, 512, 512]⟩ : Shape).ShapeCasts (M2 512 512)) :
    shapeCast (M2 512 512) (extractStridedSlice ⟨3, ![1, 512, 512]⟩ ![1, 0, 0] R h) h' = rw3 R 1 := by
  funext j; idx_vars j; unfold rw3; pointwise

/-- Recurrent bias 1. -/
theorem rb2_1 (r : FVec Ideal (M2 2 512) .f32) (h : (M2 2 512).Slices ![1, 0] (M2 1 512)) (h' : (M2 1 512).ShapeCasts (V1 512)) :
    shapeCast (V1 512) (extractStridedSlice (M2 1 512) ![1, 0] r h) h' = rb2 r 1 := by
  funext j; idx_vars j; unfold rb2; pointwise

end Stack

/-! ## Layouts -/

section Layout

/-- A transposed matrix, a vector made a row. -/
theorem transpose_a (W : FVec Ideal (M2 512 512) .f32) (h : (M2 512 512).Transposes [1, 0] (M2 512 512)) :
    transpose (M2 512 512) [1, 0] W h = tr W := by
  funext j; idx_vars j; unfold tr; pointwise
/-- The transpose of the looked-up words' weight. -/
theorem transpose_b (W : FVec Ideal (M2 512 256) .f32) (h : (M2 512 256).Transposes [1, 0] (M2 256 512)) :
    transpose (M2 256 512) [1, 0] W h = tr W := by
  funext j; idx_vars j; unfold tr; pointwise
/-- The transpose of the output weight. -/
theorem transpose_c (W : FVec Ideal (M2 1 512) .f32) (h : (M2 1 512).Transposes [1, 0] (M2 512 1)) :
    transpose (M2 512 1) [1, 0] W h = tr W := by
  funext j; idx_vars j; obtain rfl : j1 = 0 := Subsingleton.elim _ _
  unfold tr; pointwise
/-- A bias cast to one row. -/
theorem asRow_a (b : FVec Ideal (V1 512) .f32) (h : (V1 512).ShapeCasts (M2 1 512)) :
    shapeCast (M2 1 512) b h = asRow b := by
  funext j; idx_vars j; unfold asRow; pointwise
/-- The output bias cast to one row. -/
theorem asRow_b (b : FVec Ideal (V1 1) .f32) (h : (V1 1).ShapeCasts (M2 1 1)) :
    shapeCast (M2 1 1) b h = asRow b := by
  funext j; idx_vars j; obtain rfl : j1 = 0 := Subsingleton.elim _ _
  unfold asRow; pointwise
/-- The labels cast to one row. -/
theorem asRow_c (b : FVec Ideal (V1 16) .f32) (h : (V1 16).ShapeCasts (M2 1 16)) :
    shapeCast (M2 1 16) b h = asRow b := by
  funext j; idx_vars j; unfold asRow; pointwise

/-- Rows are padded, mapped, and the padding cut off: the rows mapped. -/
theorem padLin_a (x : FVec Ideal (M2 24000 256) .f32) (w : FVec Ideal (M2 256 512) .f32) (b : FVec Ideal (M2 1 512) .f32)
    (z : FVec Ideal (⟨0, ![]⟩ : Shape) .f32) (hp : (M2 24000 256).Pads ![0, 0] ![576, 0] ![0, 0] (M2 24576 256))
    (hz : 0 < (⟨0, ![]⟩ : Shape).numel) (hs : (M2 24576 512).Slices ![0, 0] (M2 24000 512)) :
    extractStridedSlice (M2 24000 512) ![0, 0] (linT (pad (M2 24576 256) ![0, 0] ![576, 0] ![0, 0] x z hp hz) w b) hs = linT x w b := by
  funext j; idx_vars j; unfold linT; pointwise
/-- Padded rows mapped and cut back: the topics' of layer 1. -/
theorem padLin_b (x : FVec Ideal (M2 5600 512) .f32) (w : FVec Ideal (M2 512 512) .f32) (b : FVec Ideal (M2 1 512) .f32)
    (z : FVec Ideal (⟨0, ![]⟩ : Shape) .f32) (hp : (M2 5600 512).Pads ![0, 0] ![544, 0] ![0, 0] (M2 6144 512))
    (hz : 0 < (⟨0, ![]⟩ : Shape).numel) (hs : (M2 6144 512).Slices ![0, 0] (M2 5600 512)) :
    extractStridedSlice (M2 5600 512) ![0, 0] (linT (pad (M2 6144 512) ![0, 0] ![544, 0] ![0, 0] x z hp hz) w b) hs = linT x w b := by
  funext j; idx_vars j; unfold linT; pointwise
/-- The words' of layer 2, negative entries zeroed first. -/
theorem padLin_c (x : FVec Ideal (M2 24000 512) .f32) (w : FVec Ideal (M2 512 512) .f32) (b : FVec Ideal (M2 1 512) .f32)
    (z : FVec Ideal (⟨0, ![]⟩ : Shape) .f32) (hp : (M2 24000 512).Pads ![0, 0] ![576, 0] ![0, 0] (M2 24576 512))
    (hz : 0 < (⟨0, ![]⟩ : Shape).numel) (hs : (M2 24576 512).Slices ![0, 0] (M2 24000 512)) :
    extractStridedSlice (M2 24000 512) ![0, 0] (linT (relu (pad (M2 24576 512) ![0, 0] ![576, 0] ![0, 0] x z hp hz)) w b) hs = linT (relu x) w b := by
  funext j; idx_vars j; unfold linT relu; pointwise
/-- The topics' of layer 2, negative entries zeroed first. -/
theorem padLin_d (x : FVec Ideal (M2 5600 512) .f32) (w : FVec Ideal (M2 512 512) .f32) (b : FVec Ideal (M2 1 512) .f32)
    (z : FVec Ideal (⟨0, ![]⟩ : Shape) .f32) (hp : (M2 5600 512).Pads ![0, 0] ![544, 0] ![0, 0] (M2 6144 512))
    (hz : 0 < (⟨0, ![]⟩ : Shape).numel) (hs : (M2 6144 512).Slices ![0, 0] (M2 5600 512)) :
    extractStridedSlice (M2 5600 512) ![0, 0] (linT (relu (pad (M2 6144 512) ![0, 0] ![544, 0] ![0, 0] x z hp hz)) w b) hs = linT (relu x) w b := by
  funext j; idx_vars j; unfold linT relu; pointwise

end Layout

end Cert.Net
-- ==== Proof.Agg.lean ====
/- The message passing of one kind of edge: every node's weighted mean of the features its edges bring, and that it is
   finite where the features and the weights are. -/
module

public import proofs.«01_k».proof.Proof.Ops

@[expose] public section

noncomputable section

open Idealize.ShloMosaic
open scoped BigOperators

namespace Cert.Net

/-- The source of each edge as the host reads it: a negative number counts from the end of the `n` nodes. -/
def wrap {e : Nat} (n : BitVec 32) (ids : IVec (V1 e) 32) (h : (⟨0, ![]⟩ : Shape).BroadcastsInDim (V1 e) ![]) : IVec (V1 e) 32 :=
  select (cmpi .slt ids (broadcastInDim (V1 e) ![] h (constantI ⟨0, ![]⟩ 32 0#32)))
    (addi ids (broadcastInDim (V1 e) ![] h (constantI ⟨0, ![]⟩ 32 n))) ids

/-- The rows of a table. -/
def rows {n e k : Nat} (g : GatherDims (M2 n k) (M2 e 1) (M2 e k)) (N : BitVec 32) (x : Mat n k) (ids : IVec (V1 e) 32)
    (h : (⟨0, ![]⟩ : Shape).BroadcastsInDim (V1 e) ![]) (h' : (V1 e).BroadcastsInDim (M2 e 1) ![0]) : Mat e k :=
  Host.gather g x (broadcastInDim (M2 e 1) ![0] h' (wrap N ids h))

/-- The weighted features every edge brings, added up at its target. -/
def total {n e d : Nat} (g : GatherDims (M2 n 512) (M2 e 1) (M2 e 512)) (sc : ScatterDims (M2 d 512) (M2 e 1) (M2 e 512))
    (N : BitVec 32) (x : Mat n 512) (src dst : IVec (V1 e) 32) (w : Row e)
    (h : (⟨0, ![]⟩ : Shape).BroadcastsInDim (V1 e) ![]) (h' : (V1 e).BroadcastsInDim (M2 e 1) ![0])
    (h'' : (M2 e 1).BroadcastsInDim (M2 e 512) ![0, 1]) (hd : (⟨0, ![]⟩ : Shape).BroadcastsInDim (M2 d 512) ![]) : Mat d 512 :=
  Host.scatterAdd (F := Ideal) (φ := .f32) sc (broadcastInDim (M2 d 512) ![] hd (constant (F := Ideal) ⟨0, ![]⟩ .f32 0x00000000#32))
    (broadcastInDim (M2 e 1) ![0] h' dst)
    (mulf (F := Ideal) (φ := .f32) (rows g N x src h h') (broadcastInDim (M2 e 512) ![0, 1] h'' (broadcastInDim (M2 e 1) ![0] h' w)))

/-- How many edges reach each node, at least one. -/
def count {e d : Nat} (sc : ScatterDims (M2 d 1) (M2 e 1) (M2 e 1)) (dst : IVec (V1 e) 32)
    (h' : (V1 e).BroadcastsInDim (M2 e 1) ![0]) (he : (⟨0, ![]⟩ : Shape).BroadcastsInDim (M2 e 1) ![])
    (hd : (⟨0, ![]⟩ : Shape).BroadcastsInDim (M2 d 1) ![]) : Mat d 1 :=
  maximumf (F := Ideal) (φ := .f32) (Host.scatterAdd (F := Ideal) (φ := .f32) sc
      (broadcastInDim (M2 d 1) ![] hd (constant (F := Ideal) ⟨0, ![]⟩ .f32 0x00000000#32)) (broadcastInDim (M2 e 1) ![0] h' dst)
      (broadcastInDim (M2 e 1) ![] he (constant (F := Ideal) ⟨0, ![]⟩ .f32 0x3F800000#32)))
    (broadcastInDim (M2 d 1) ![] hd (constant (F := Ideal) ⟨0, ![]⟩ .f32 0x3F800000#32))

/-- The mean. -/
def mean {n e d : Nat} (g : GatherDims (M2 n 512) (M2 e 1) (M2 e 512)) (sc : ScatterDims (M2 d 512) (M2 e 1) (M2 e 512))
    (sc1 : ScatterDims (M2 d 1) (M2 e 1) (M2 e 1)) (N : BitVec 32) (x : Mat n 512) (src dst : IVec (V1 e) 32) (w : Row e)
    (h : (⟨0, ![]⟩ : Shape).BroadcastsInDim (V1 e) ![]) (h' : (V1 e).BroadcastsInDim (M2 e 1) ![0])
    (h'' : (M2 e 1).BroadcastsInDim (M2 e 512) ![0, 1]) (hd : (⟨0, ![]⟩ : Shape).BroadcastsInDim (M2 d 512) ![])
    (he : (⟨0, ![]⟩ : Shape).BroadcastsInDim (M2 e 1) ![]) (hd1 : (⟨0, ![]⟩ : Shape).BroadcastsInDim (M2 d 1) ![])
    (hd' : (M2 d 1).BroadcastsInDim (M2 d 512) ![0, 1]) : Mat d 512 :=
  Host.divf (F := Ideal) (φ := .f32) (total g sc N x src dst w h h' h'' hd)
    (broadcastInDim (M2 d 512) ![0, 1] hd' (count sc1 dst h' he hd1))

/-- Stretching keeps finiteness. -/
theorem bcast_reals {s t : Shape} {dims : Fin s.rank → Fin t.rank} (h : s.BroadcastsInDim t dims) {x : s.Idx → EReal} (hx : Reals x) :
    Reals (broadcastInDim t dims h x) := fun _ => hx _

/-- Rows of a finite table are finite. -/
theorem rows_reals {n e k : Nat} (g : GatherDims (M2 n k) (M2 e 1) (M2 e k)) (N : BitVec 32) {x : Mat n k} (hx : Reals x)
    (ids : IVec (V1 e) 32) (h : (⟨0, ![]⟩ : Shape).BroadcastsInDim (V1 e) ![]) (h' : (V1 e).BroadcastsInDim (M2 e 1) ![0]) :
    Reals (rows g N x ids h h') := fun _ => hx _

/-- The constant zero is finite. -/
theorem zero_reals (s : Shape) : Reals (constant (F := Ideal) s .f32 0x00000000#32) :=
  fun _ => ⟨0, Ideal.ofBits_zero_f32⟩

/-- The constant one is finite. -/
theorem one_reals (s : Shape) : Reals (constant (F := Ideal) s .f32 0x3F800000#32) :=
  fun _ => ⟨1, Ideal.ofBits_one_f32⟩

/-- Adding finite updates onto finite elements stays finite. -/
theorem scatter_reals {s si su : Shape} (sc : ScatterDims s si su) {x : s.Idx → EReal} (hx : Reals x) (idx : IVec si 32)
    {u : su.Idx → EReal} (hu : Reals u) : Reals (Host.scatterAdd (F := Ideal) (φ := .f32) sc x idx u) :=
  fun i => real_add (hx i) (real_sum _ fun j _ => hu j)

/-- The totals are finite. -/
theorem total_reals {n e d : Nat} (g : GatherDims (M2 n 512) (M2 e 1) (M2 e 512)) (sc : ScatterDims (M2 d 512) (M2 e 1) (M2 e 512))
    (N : BitVec 32) {x : Mat n 512} (hx : Reals x) (src dst : IVec (V1 e) 32) {w : Row e} (hw : Reals w)
    (h : (⟨0, ![]⟩ : Shape).BroadcastsInDim (V1 e) ![]) (h' : (V1 e).BroadcastsInDim (M2 e 1) ![0])
    (h'' : (M2 e 1).BroadcastsInDim (M2 e 512) ![0, 1]) (hd : (⟨0, ![]⟩ : Shape).BroadcastsInDim (M2 d 512) ![]) :
    Reals (total g sc N x src dst w h h' h'' hd) :=
  scatter_reals sc (bcast_reals hd (zero_reals _)) _
    fun i => real_mul (rows_reals g N hx src h h' i) (bcast_reals h'' (bcast_reals h' hw) i)

/-- The counts are finite. -/
theorem count_reals {e d : Nat} (sc : ScatterDims (M2 d 1) (M2 e 1) (M2 e 1)) (dst : IVec (V1 e) 32)
    (h' : (V1 e).BroadcastsInDim (M2 e 1) ![0]) (he : (⟨0, ![]⟩ : Shape).BroadcastsInDim (M2 e 1) ![])
    (hd : (⟨0, ![]⟩ : Shape).BroadcastsInDim (M2 d 1) ![]) : Reals (count sc dst h' he hd) :=
  fun i => real_max (scatter_reals sc (bcast_reals hd (zero_reals _)) _ (bcast_reals he (one_reals _)) i)
    (bcast_reals hd (one_reals _) i)

/-- The counts are at least one. -/
theorem one_le_count {e d : Nat} (sc : ScatterDims (M2 d 1) (M2 e 1) (M2 e 1)) (dst : IVec (V1 e) 32)
    (h' : (V1 e).BroadcastsInDim (M2 e 1) ![0]) (he : (⟨0, ![]⟩ : Shape).BroadcastsInDim (M2 e 1) ![])
    (hd : (⟨0, ![]⟩ : Shape).BroadcastsInDim (M2 d 1) ![]) (i : (M2 d 1).Idx) : 1 ≤ count sc dst h' he hd i := by
  have : (1 : EReal) = broadcastInDim (M2 d 1) ![] hd (constant (F := Ideal) ⟨0, ![]⟩ .f32 0x3F800000#32) i := Ideal.ofBits_one_f32.symm
  rw [this]; exact le_max_right _ _

/-- A finite number over a finite number that is at least one is finite. -/
theorem real_div {x y : EReal} (hx : ∃ r : ℝ, x = r) (hy : ∃ r : ℝ, y = r) (h1 : 1 ≤ y) : ∃ r : ℝ, Ideal.div x y = r := by
  obtain ⟨b, hb⟩ := hy
  have h0 : y ≠ 0 := fun h => by rw [h] at h1; exact absurd h1 (not_le.mpr zero_lt_one)
  unfold Ideal.div
  rw [if_neg h0]
  exact real_mul hx ⟨b⁻¹, by rw [hb, EReal.coe_inv]⟩

/-- The means are finite. -/
theorem mean_reals {n e d : Nat} (g : GatherDims (M2 n 512) (M2 e 1) (M2 e 512)) (sc : ScatterDims (M2 d 512) (M2 e 1) (M2 e 512))
    (sc1 : ScatterDims (M2 d 1) (M2 e 1) (M2 e 1)) (N : BitVec 32) {x : Mat n 512} (hx : Reals x) (src dst : IVec (V1 e) 32)
    {w : Row e} (hw : Reals w)
    (h : (⟨0, ![]⟩ : Shape).BroadcastsInDim (V1 e) ![]) (h' : (V1 e).BroadcastsInDim (M2 e 1) ![0])
    (h'' : (M2 e 1).BroadcastsInDim (M2 e 512) ![0, 1]) (hd : (⟨0, ![]⟩ : Shape).BroadcastsInDim (M2 d 512) ![])
    (he : (⟨0, ![]⟩ : Shape).BroadcastsInDim (M2 e 1) ![]) (hd1 : (⟨0, ![]⟩ : Shape).BroadcastsInDim (M2 d 1) ![])
    (hd' : (M2 d 1).BroadcastsInDim (M2 d 512) ![0, 1]) :
    Reals (mean g sc sc1 N x src dst w h h' h'' hd he hd1 hd') :=
  fun i => real_div (total_reals g sc N hx src dst hw h h' h'' hd i) (bcast_reals hd' (count_reals sc1 dst h' he hd1) i)
    (one_le_count sc1 dst h' he hd1 _)

end Cert.Net
-- ==== Proof.Tail.lean ====
/- What both programs compute from the document features: the maximum over each graph's 20 documents, the two recurrent
   layers over 7 time steps, one score per sequence, the mean logistic loss and the logistic values of the scores. -/
module

public import proofs.«01_k».proof.Proof.Ops

@[expose] public section

noncomputable section

open Idealize.ShloMosaic
open scoped BigOperators

namespace Cert.Net

/-- The shape of a three-axis array. -/
abbrev S3 (a b c : Nat) : Shape := ⟨3, ![a, b, c]⟩

/-- Row `r` of graph `g` of sequence `s`, step `t`: the documents are numbered graph by graph, 20 a graph. -/
def docRow (s : Fin 16) (t : Fin 7) (k : Fin 20) : Fin 2240 := ⟨(s.val * 7 + t.val) * 20 + k.val, by omega⟩

/-- The features of a graph: the largest rectified feature of its 20 documents, entry by entry. -/
def pool (X : Mat 2240 512) : (S3 16 7 512).Idx → EReal :=
  fun j => max (Finset.univ.fold max ⊥ fun k : Fin 20 => X (ix2 (docRow (j 0) (j 1) k) (j 2))) 0

/-- The pattern of minus infinity. -/
theorem ofBits_negInf : Ideal.ofBits .f32 0xFF800000#32 = ⊥ := by simp [Ideal.ofBits, Ideal.ieee]

/-- The kernel's pooling. -/
theorem kerPool (X : FVec Ideal (M2 2240 512) .f32) (h0 : (M2 2240 512).ShapeCasts (M2 2240 512))
    (h1 : (M2 2240 512).ShapeCasts (S3 112 20 512)) (h2 : (S3 112 20 512).Reduces [1] (M2 112 512))
    (h3 : FKind.Formats .f32) (h4 : (0xFF800000#32 : BitVec 32) = FKind.maximumf.neutral .f32 h3)
    (h5 : (M2 112 512).ShapeCasts (S3 16 7 512)) :
    shapeCast (S3 16 7 512) (maximumf (multiReduction (F := Ideal) .maximumf [1] (M2 112 512)
      (shapeCast (S3 112 20 512) (shapeCast (M2 2240 512) X h0) h1) 0xFF800000#32 h2 h3 h4)
      (broadcast (M2 112 512) (Scalar.ofBits .f32 0x00000000#32))) h5 = pool X := by
  funext j; idx_vars j; unfold pool docRow; pointwise; rw [ofBits_negInf]

/-- A maximum over all 2240 documents of the rectified features of graph `g`'s, the others at minus infinity, is the
    rectified maximum over graph `g`'s 20. -/
theorem max_members (f : Fin 2240 → EReal) (s : Fin 16) (t : Fin 7) :
    (Finset.univ.fold max ⊥ fun k : Fin 2240 => if k.val / 20 = s.val * 7 + t.val then max (f k) 0 else ⊥)
      = max (Finset.univ.fold max ⊥ fun k : Fin 20 => f (docRow s t k)) 0 := by
  apply le_antisymm
  · rw [Finset.fold_max_le]
    refine ⟨bot_le, fun k _ => ?_⟩
    split
    · next h =>
      refine max_le_max ?_ le_rfl
      have e : docRow s t ⟨k.val % 20, Nat.mod_lt _ (by decide)⟩ = k := Fin.ext (by show (s.val * 7 + t.val) * 20 + k.val % 20 = k.val; omega)
      rw [Finset.le_fold_max]
      exact .inr ⟨⟨k.val % 20, Nat.mod_lt _ (by decide)⟩, Finset.mem_univ _, by rw [e]⟩
    · exact bot_le
  · have hd : ∀ k : Fin 20, (docRow s t k).val / 20 = s.val * 7 + t.val := fun k => by
      show ((s.val * 7 + t.val) * 20 + k.val) / 20 = _; omega
    refine max_le ?_ ?_
    · rw [Finset.fold_max_le]
      refine ⟨bot_le, fun k _ => ?_⟩
      rw [Finset.le_fold_max]
      exact .inr ⟨docRow s t k, Finset.mem_univ _, by rw [if_pos (hd k)]; exact le_max_left _ _⟩
    · rw [Finset.le_fold_max]
      exact .inr ⟨docRow s t 0, Finset.mem_univ _, by rw [if_pos (hd 0)]; exact le_max_right _ _⟩

/-- The reference's pooling, where document `k` belongs to graph `k / 20`. -/
theorem hostPool (X : Mat 2240 512) (Y : FVec Ideal (M2 2240 512) .f32) (hY : Y = relu X) (ids : IVec (V1 2240) 32)
    (hids : ∀ k : Fin 2240, ids (ix1 k) = BitVec.ofNat 32 (k.val / 20))
    (h1 : (S3 2240 112 1).BroadcastsInDim (S3 2240 112 512) ![0, 1, 2]) (h2 : (M2 2240 112).BroadcastsInDim (S3 2240 112 1) ![0, 1])
    (h3 : (M2 2240 1).BroadcastsInDim (M2 2240 112) ![0, 1]) (h4 : (V1 2240).BroadcastsInDim (M2 2240 1) ![0])
    (h5 : (M2 1 112).BroadcastsInDim (M2 2240 112) ![0, 1]) (h6 : (V1 112).BroadcastsInDim (M2 1 112) ![1])
    (h7 : (S3 2240 1 512).BroadcastsInDim (S3 2240 112 512) ![0, 1, 2]) (h8 : (M2 2240 512).BroadcastsInDim (S3 2240 1 512) ![0, 2])
    (h9 : (⟨0, ![]⟩ : Shape).BroadcastsInDim (S3 2240 112 512) ![]) (h10 : (S3 2240 112 512).ReducesTo [0] (M2 112 512))
    (h11 : 0 < (⟨0, ![]⟩ : Shape).numel) (h12 : (M2 112 512).ShapeCasts (S3 16 7 512)) :
    shapeCast (S3 16 7 512) (Host.reduce (s := S3 2240 112 512) (t := M2 112 512) (u := ⟨0, ![]⟩) FloatOps.maximumf
      (select (broadcastInDim (S3 2240 112 512) ![0, 1, 2] h1 (broadcastInDim (S3 2240 112 1) ![0, 1] h2
        (cmpi .eq (broadcastInDim (M2 2240 112) ![0, 1] h3 (broadcastInDim (M2 2240 1) ![0] h4 ids))
          (broadcastInDim (M2 2240 112) ![0, 1] h5 (broadcastInDim (M2 1 112) ![1] h6 (iotaInDim (V1 112) 32 0))))))
        (broadcastInDim (S3 2240 112 512) ![0, 1, 2] h7 (broadcastInDim (S3 2240 1 512) ![0, 2] h8 Y))
        (broadcastInDim (S3 2240 112 512) ![] h9 (constant (F := Ideal) ⟨0, ![]⟩ .f32 0xFF800000#32)))
      (constant (F := Ideal) ⟨0, ![]⟩ .f32 0xFF800000#32) h10 h11) h12 = pool X := by
  funext j; idx_vars j; unfold pool; pointwise
  rw [ofBits_negInf, hY]
  refine Eq.trans ?_ (max_members (fun k => X (ix2 k j2)) j0 j1)
  refine Finset.fold_congr fun k _ => ?_
  rw [hids]
  have e : (BitVec.ofNat 32 (k.val / 20) = BitVec.ofNat 32 (j0.val * 7 + j1.val)) ↔ k.val / 20 = j0.val * 7 + j1.val := by
    refine ⟨fun h => ?_, fun h => by rw [h]⟩
    have := congrArg BitVec.toNat h
    simp only [BitVec.toNat_ofNat] at this
    omega
  by_cases h : k.val / 20 = j0.val * 7 + j1.val
  · simp [Scalar.select, IntOp.cmpi, h, relu]
  · have h' : (BitVec.ofNat 32 (k.val / 20) == BitVec.ofNat 32 (j0.val * 7 + j1.val)) = false :=
      beq_eq_false_iff_ne.mpr fun h'' => h (e.mp h'')
    simp [Scalar.select, IntOp.cmpi, h, h', relu]

/-! ## The recurrent layers -/

/-- Step `i` of a sequence of 7. -/
def at7 (Y : (S3 16 7 512).Idx → EReal) (i : Fin 7) : Mat 16 512 := fun j => Y (ix3 (j 0) i (j 1))

/-- Step 0, cut out and its unit axis dropped. -/
theorem at7_0 (Y : FVec Ideal (S3 16 7 512) .f32) (h : (S3 16 7 512).Slices ![0, 0, 0] (S3 16 1 512))
    (h' : (S3 16 1 512).ShapeCasts (M2 16 512)) :
    shapeCast (M2 16 512) (extractStridedSlice (S3 16 1 512) ![0, 0, 0] Y h) h' = at7 Y 0 := by
  funext j; idx_vars j; unfold at7; pointwise

/-- Step 1, cut out and its unit axis dropped. -/
theorem at7_1 (Y : FVec Ideal (S3 16 7 512) .f32) (h : (S3 16 7 512).Slices ![0, 1, 0] (S3 16 1 512))
    (h' : (S3 16 1 512).ShapeCasts (M2 16 512)) :
    shapeCast (M2 16 512) (extractStridedSlice (S3 16 1 512) ![0, 1, 0] Y h) h' = at7 Y 1 := by
  funext j; idx_vars j; unfold at7; pointwise

/-- Step 2, cut out and its unit axis dropped. -/
theorem at7_2 (Y : FVec Ideal (S3 16 7 512) .f32) (h : (S3 16 7 512).Slices ![0, 2, 0] (S3 16 1 512))
    (h' : (S3 16 1 512).ShapeCasts (M2 16 512)) :
    shapeCast (M2 16 512) (extractStridedSlice (S3 16 1 512) ![0, 2, 0] Y h) h' = at7 Y 2 := by
  funext j; idx_vars j; unfold at7; pointwise

/-- Step 3, cut out and its unit axis dropped. -/
theorem at7_3 (Y : FVec Ideal (S3 16 7 512) .f32) (h : (S3 16 7 512).Slices ![0, 3, 0] (S3 16 1 512))
    (h' : (S3 16 1 512).ShapeCasts (M2 16 512)) :
    shapeCast (M2 16 512) (extractStridedSlice (S3 16 1 512) ![0, 3, 0] Y h) h' = at7 Y 3 := by
  funext j; idx_vars j; unfold at7; pointwise

/-- Step 4, cut out and its unit axis dropped. -/
theorem at7_4 (Y : FVec Ideal (S3 16 7 512) .f32) (h : (S3 16 7 512).Slices ![0, 4, 0] (S3 16 1 512))
    (h' : (S3 16 1 512).ShapeCasts (M2 16 512)) :
    shapeCast (M2 16 512) (extractStridedSlice (S3 16 1 512) ![0, 4, 0] Y h) h' = at7 Y 4 := by
  funext j; idx_vars j; unfold at7; pointwise

/-- Step 5, cut out and its unit axis dropped. -/
theorem at7_5 (Y : FVec Ideal (S3 16 7 512) .f32) (h : (S3 16 7 512).Slices ![0, 5, 0] (S3 16 1 512))
    (h' : (S3 16 1 512).ShapeCasts (M2 16 512)) :
    shapeCast (M2 16 512) (extractStridedSlice (S3 16 1 512) ![0, 5, 0] Y h) h' = at7 Y 5 := by
  funext j; idx_vars j; unfold at7; pointwise

/-- Step 6, cut out and its unit axis dropped. -/
theorem at7_6 (Y : FVec Ideal (S3 16 7 512) .f32) (h : (S3 16 7 512).Slices ![0, 6, 0] (S3 16 1 512))
    (h' : (S3 16 1 512).ShapeCasts (M2 16 512)) :
    shapeCast (M2 16 512) (extractStridedSlice (S3 16 1 512) ![0, 6, 0] Y h) h' = at7 Y 6 := by
  funext j; idx_vars j; unfold at7; pointwise

/-- The hidden states of a recurrent layer over the inputs `P`, from a zero state. -/
def hid (P : ℕ → Mat 16 512) (w : Mat 512 512) (b : Mat 1 512) (u : Mat 512 512) (b' : Mat 1 512) : ℕ → Mat 16 512
  | 0 => cell (P 0) w b (fun _ => 0) u b'
  | n + 1 => cell (P (n + 1)) w b (hid P w b u b' n) u b'

/-- The inputs of the first layer: the pooled features, step by step. -/
def steps (X : Mat 2240 512) (n : ℕ) : Mat 16 512 := at7 (pool X) (Fin.ofNat 7 n)

/-- The scores: two recurrent layers over the pooled features, the last state of the second mapped to one number. -/
def score (X : Mat 2240 512) (w : Mat 512 512) (b : Mat 1 512) (u : Mat 512 512) (b' : Mat 1 512) (w2 : Mat 512 512) (b2 : Mat 1 512)
    (u2 : Mat 512 512) (b2' : Mat 1 512) (wo : Mat 512 1) (bo : Mat 1 1) : Mat 16 1 :=
  linT (hid (hid (steps X) w b u b') w2 b2 u2 b2' 6) wo bo

/-- The mean over 16 sequences of `max(s, 0) - s * y + log(1 + exp(-|s|))`. -/
def loss (s : Mat 16 1) (y : Mat 1 16) : EReal :=
  Ideal.div (∑ i : Fin 16, (max (s (ix2 i 0)) 0 - s (ix2 i 0) * y (ix2 0 i)
    + Ideal.log1p (Ideal.exp (-(max (s (ix2 i 0)) (-s (ix2 i 0))))))) (Ideal.ofBits .f32 0x41800000#32)

/-- The reference's loss. -/
theorem hostLoss (s : FVec Ideal (M2 16 1) .f32) (y : FVec Ideal (V1 16) .f32) (h1 : (M2 16 1).ShapeCasts (V1 16))
    (h2 : (⟨0, ![]⟩ : Shape).BroadcastsInDim (V1 16) ![]) (h3 : (V1 16).ReducesTo [0] ⟨0, ![]⟩) (h4 : 0 < (⟨0, ![]⟩ : Shape).numel) :
    Host.divf (Host.reduceAdd (addf (subf (maximumf (shapeCast (V1 16) s h1) (broadcastInDim (V1 16) ![] h2
        (constant (F := Ideal) ⟨0, ![]⟩ .f32 0x00000000#32))) (mulf (shapeCast (V1 16) s h1) y))
        (Host.log1p (Host.exp (Host.negf (Host.absf (shapeCast (V1 16) s h1))))))
      (constant (F := Ideal) ⟨0, ![]⟩ .f32 0x00000000#32) h3 h4) (constant (F := Ideal) ⟨0, ![]⟩ .f32 0x41800000#32)
      = fun _ => loss s (asRow y) := by
  funext j; unfold loss asRow; pointwise
  rfl

/-- The kernel's loss. -/
theorem kerLoss (s : FVec Ideal (M2 16 1) .f32) (y : FVec Ideal (M2 1 16) .f32) (h1 : (M2 16 1).ShapeCasts (V1 16))
    (h1' : (M2 1 16).ShapeCasts (V1 16)) (h2 : (V1 16).ShapeCasts (M2 1 16)) (h3 : (M2 1 16).Reduces [1] (V1 1))
    (h4 : FKind.Formats .f32) (h5 : (0x00000000#32 : BitVec 32) = FKind.add.neutral .f32 h4) (h6 : (V1 1).ShapeCasts (M2 1 1))
    (h7 : ∀ a, (![0, 0] : Fin 2 → Nat) a < (M2 1 1).size a) :
    broadcast (M2 1 1) (Scalar.divf (extractAt ![0, 0] (shapeCast (M2 1 1) (multiReduction (F := Ideal) .add [1] (V1 1) (shapeCast (M2 1 16)
      (addf (subf (maximumf (shapeCast (V1 16) s h1) (broadcast (V1 16) (Scalar.ofBits .f32 0x00000000#32)))
        (mulf (shapeCast (V1 16) s h1) (shapeCast (V1 16) y h1')))
        (log1p (exp (subf (broadcast (V1 16) (Scalar.ofBits .f32 0x00000000#32)) (absf (shapeCast (V1 16) s h1)))))) h2)
      0x00000000#32 h3 h4 h5) h6) h7) (Scalar.ofBits .f32 0x41800000#32)) = fun _ => loss s y := by
  funext j; unfold loss; pointwise
  simp only [zero_sub]
  rfl

/-- The reference's logistic values. -/
theorem hostSigmoid (s : FVec Ideal (M2 16 1) .f32) (h1 : (M2 16 1).ShapeCasts (V1 16))
    (h2 h3 : (⟨0, ![]⟩ : Shape).BroadcastsInDim (V1 16) ![]) :
    Host.divf (broadcastInDim (V1 16) ![] h2 (constant (F := Ideal) ⟨0, ![]⟩ .f32 0x3F800000#32))
      (addf (broadcastInDim (V1 16) ![] h3 (constant (F := Ideal) ⟨0, ![]⟩ .f32 0x3F800000#32))
        (Host.exp (Host.negf (shapeCast (V1 16) s h1)))) = fun j => Ideal.logistic (s (ix2 (j 0) 0)) := by
  funext j; idx_vars j; pointwise
  rfl

/-- The kernel's logistic values, its unit axis dropped. -/
theorem kerSigmoid (s : FVec Ideal (M2 16 1) .f32) (h1 : (M2 16 1).ShapeCasts (V1 16)) :
    shapeCast (V1 16) (logistic s) h1 = fun j => Ideal.logistic (s (ix2 (j 0) 0)) := by
  funext j; idx_vars j; pointwise

end Cert.Net
-- ==== Proof.Ref.lean ====
/- The reference's stages in the vocabulary of the problem: its linear layers, its weighted means and its recurrent layers. -/
module

public import proofs.«01_k».proof.Proof.Agg
public import proofs.«01_k».proof.Proof.Tail
public import proofs.«01_k».proof.Proof.Gen.ReferenceIdeal.Read

@[expose] public section

noncomputable section

open Idealize.ShloMosaic Cert.ReferenceIdeal Cert.ReferenceIdeal.Gen Cert.ReferenceIdeal.Read

namespace Cert.Net.Ref

/-! ## The weighted means, one for each kind of edge -/

/-- Words to words. -/
def meanWW (x : Mat 24000 512) (src dst : IVec (V1 96000) 32) (w : Row 96000) : Mat 24000 512 :=
  mean gather_S24000x512_S96000x1_S96000x512_1_0_n_n_0_1_1512 scatter_S24000x512_S96000x1_S96000x512_1_0_0_1 scatter_S24000x1_S96000x1_S96000x1_1_0_0_1
    24000#32 x src dst w bcast_S_S96000 bcast_S96000_S96000x1_0 bcast_S96000x1_S96000x512_0_1 bcast_S_S24000x512 bcast_S_S96000x1 bcast_S_S24000x1
    bcast_S24000x1_S24000x512_0_1

/-- It is finite. -/
theorem meanWW_reals {x : Mat 24000 512} (hx : Reals x) (src dst : IVec (V1 96000) 32) {w : Row 96000} (hw : Reals w) :
    Reals (meanWW x src dst w) := mean_reals _ _ _ _ hx _ _ hw _ _ _ _ _ _ _

/-- Words to topics. -/
def meanWT (x : Mat 24000 512) (src dst : IVec (V1 48000) 32) (w : Row 48000) : Mat 5600 512 :=
  mean gather_S24000x512_S48000x1_S48000x512_1_0_n_n_0_1_1512 scatter_S5600x512_S48000x1_S48000x512_1_0_0_1 scatter_S5600x1_S48000x1_S48000x1_1_0_0_1
    24000#32 x src dst w bcast_S_S48000 bcast_S48000_S48000x1_0 bcast_S48000x1_S48000x512_0_1 bcast_S_S5600x512 bcast_S_S48000x1 bcast_S_S5600x1
    bcast_S5600x1_S5600x512_0_1

/-- It is finite. -/
theorem meanWT_reals {x : Mat 24000 512} (hx : Reals x) (src dst : IVec (V1 48000) 32) {w : Row 48000} (hw : Reals w) :
    Reals (meanWT x src dst w) := mean_reals _ _ _ _ hx _ _ hw _ _ _ _ _ _ _

/-- Topics to topics. -/
def meanTT (x : Mat 5600 512) (src dst : IVec (V1 24000) 32) (w : Row 24000) : Mat 5600 512 :=
  mean gather_S5600x512_S24000x1_S24000x512_1_0_n_n_0_1_1512 scatter_S5600x512_S24000x1_S24000x512_1_0_0_1 scatter_S5600x1_S24000x1_S24000x1_1_0_0_1
    5600#32 x src dst w bcast_S_S24000 bcast_S24000_S24000x1_0 bcast_S24000x1_S24000x512_0_1 bcast_S_S5600x512 bcast_S_S24000x1 bcast_S_S5600x1
    bcast_S5600x1_S5600x512_0_1

/-- It is finite. -/
theorem meanTT_reals {x : Mat 5600 512} (hx : Reals x) (src dst : IVec (V1 24000) 32) {w : Row 24000} (hw : Reals w) :
    Reals (meanTT x src dst w) := mean_reals _ _ _ _ hx _ _ hw _ _ _ _ _ _ _

/-- Words to documents. -/
def meanWD (x : Mat 24000 512) (src dst : IVec (V1 48000) 32) (w : Row 48000) : Mat 2240 512 :=
  mean gather_S24000x512_S48000x1_S48000x512_1_0_n_n_0_1_1512 scatter_S2240x512_S48000x1_S48000x512_1_0_0_1 scatter_S2240x1_S48000x1_S48000x1_1_0_0_1
    24000#32 x src dst w bcast_S_S48000 bcast_S48000_S48000x1_0 bcast_S48000x1_S48000x512_0_1 bcast_S_S2240x512 bcast_S_S48000x1 bcast_S_S2240x1
    bcast_S2240x1_S2240x512_0_1

/-- It is finite. -/
theorem meanWD_reals {x : Mat 24000 512} (hx : Reals x) (src dst : IVec (V1 48000) 32) {w : Row 48000} (hw : Reals w) :
    Reals (meanWD x src dst w) := mean_reals _ _ _ _ hx _ _ hw _ _ _ _ _ _ _

/-- Topics to documents. -/
def meanTD (x : Mat 5600 512) (src dst : IVec (V1 24000) 32) (w : Row 24000) : Mat 2240 512 :=
  mean gather_S5600x512_S24000x1_S24000x512_1_0_n_n_0_1_1512 scatter_S2240x512_S24000x1_S24000x512_1_0_0_1 scatter_S2240x1_S24000x1_S24000x1_1_0_0_1
    5600#32 x src dst w bcast_S_S24000 bcast_S24000_S24000x1_0 bcast_S24000x1_S24000x512_0_1 bcast_S_S2240x512 bcast_S_S24000x1 bcast_S_S2240x1
    bcast_S2240x1_S2240x512_0_1

/-- It is finite. -/
theorem meanTD_reals {x : Mat 5600 512} (hx : Reals x) (src dst : IVec (V1 24000) 32) {w : Row 24000} (hw : Reals w) :
    Reals (meanTD x src dst w) := mean_reals _ _ _ _ hx _ _ hw _ _ _ _ _ _ _

variable (x0 : (⟨S24000, .i32⟩ : BufTy).Contents (Elt Ideal))
  (x1 : (⟨S5600, .i32⟩ : BufTy).Contents (Elt Ideal))
  (x2 : (⟨S2240, .i32⟩ : BufTy).Contents (Elt Ideal))
  (x3 : (⟨S96000, .i32⟩ : BufTy).Contents (Elt Ideal))
  (x4 : (⟨S96000, .i32⟩ : BufTy).Contents (Elt Ideal))
  (x5 : (⟨S48000, .i32⟩ : BufTy).Contents (Elt Ideal))
  (x6 : (⟨S48000, .i32⟩ : BufTy).Contents (Elt Ideal))
  (x7 : (⟨S48000, .i32⟩ : BufTy).Contents (Elt Ideal))
  (x8 : (⟨S48000, .i32⟩ : BufTy).Contents (Elt Ideal))
  (x9 : (⟨S24000, .i32⟩ : BufTy).Contents (Elt Ideal))
  (x10 : (⟨S24000, .i32⟩ : BufTy).Contents (Elt Ideal))
  (x11 : (⟨S24000, .i32⟩ : BufTy).Contents (Elt Ideal))
  (x12 : (⟨S24000, .i32⟩ : BufTy).Contents (Elt Ideal))
  (x13 : (⟨S96000, .f32⟩ : BufTy).Contents (Elt Ideal))
  (x14 : (⟨S48000, .f32⟩ : BufTy).Contents (Elt Ideal))
  (x15 : (⟨S48000, .f32⟩ : BufTy).Contents (Elt Ideal))
  (x16 : (⟨S24000, .f32⟩ : BufTy).Contents (Elt Ideal))
  (x17 : (⟨S24000, .f32⟩ : BufTy).Contents (Elt Ideal))
  (x18 : (⟨S15000x256, .f32⟩ : BufTy).Contents (Elt Ideal))
  (x19 : (⟨S50x512, .f32⟩ : BufTy).Contents (Elt Ideal))
  (x20 : (⟨S512x256, .f32⟩ : BufTy).Contents (Elt Ideal))
  (x21 : (⟨S512, .f32⟩ : BufTy).Contents (Elt Ideal))
  (x22 : (⟨S2x5x512x512, .f32⟩ : BufTy).Contents (Elt Ideal))
  (x23 : (⟨S2x5x512, .f32⟩ : BufTy).Contents (Elt Ideal))
  (x24 : (⟨S2x512x512, .f32⟩ : BufTy).Contents (Elt Ideal))
  (x25 : (⟨S2x512x512, .f32⟩ : BufTy).Contents (Elt Ideal))
  (x26 : (⟨S2x512, .f32⟩ : BufTy).Contents (Elt Ideal))
  (x27 : (⟨S2x512, .f32⟩ : BufTy).Contents (Elt Ideal))
  (x28 : (⟨S1x512, .f32⟩ : BufTy).Contents (Elt Ideal))
  (x29 : (⟨S1, .f32⟩ : BufTy).Contents (Elt Ideal))
  (x30 : (⟨S16, .f32⟩ : BufTy).Contents (Elt Ideal))

/-! ## The weights and biases of the linear layers -/

/-- Weight (0, 0). -/
theorem w24 : (val_main_v24 (F := Ideal) x22) = wt x22 0 0 := wt2_00 x22 _ _ _ _
/-- Bias (0, 0). -/
theorem b28 : (val_main_v28 (F := Ideal) x23) = bs x23 0 0 := bs2_00 x23 _ _ _ _

/-- Weight (0, 1). -/
theorem w33 : (val_main_v33 (F := Ideal) x22) = wt x22 0 1 := wt2_01 x22 _ _ _ _
/-- Bias (0, 1). -/
theorem b37 : (val_main_v37 (F := Ideal) x23) = bs x23 0 1 := bs2_01 x23 _ _ _ _

/-- Weight (0, 2). -/
theorem w42 : (val_main_v42 (F := Ideal) x22) = wt x22 0 2 := wt2_02 x22 _ _ _ _
/-- Bias (0, 2). -/
theorem b46 : (val_main_v46 (F := Ideal) x23) = bs x23 0 2 := bs2_02 x23 _ _ _ _

/-- Weight (0, 3). -/
theorem w51 : (val_main_v51 (F := Ideal) x22) = wt x22 0 3 := wt2_03 x22 _ _ _ _
/-- Bias (0, 3). -/
theorem b55 : (val_main_v55 (F := Ideal) x23) = bs x23 0 3 := bs2_03 x23 _ _ _ _

/-- Weight (0, 4). -/
theorem w60 : (val_main_v60 (F := Ideal) x22) = wt x22 0 4 := wt2_04 x22 _ _ _ _
/-- Bias (0, 4). -/
theorem b64 : (val_main_v64 (F := Ideal) x23) = bs x23 0 4 := bs2_04 x23 _ _ _ _

/-- Weight (1, 0). -/
theorem w141 : (val_main_v141 (F := Ideal) x22) = wt x22 1 0 := wt2_10 x22 _ _ _ _
/-- Bias (1, 0). -/
theorem b145 : (val_main_v145 (F := Ideal) x23) = bs x23 1 0 := bs2_10 x23 _ _ _ _

/-- Weight (1, 1). -/
theorem w150 : (val_main_v150 (F := Ideal) x22) = wt x22 1 1 := wt2_11 x22 _ _ _ _
/-- Bias (1, 1). -/
theorem b154 : (val_main_v154 (F := Ideal) x23) = bs x23 1 1 := bs2_11 x23 _ _ _ _

/-- Weight (1, 2). -/
theorem w159 : (val_main_v159 (F := Ideal) x22) = wt x22 1 2 := wt2_12 x22 _ _ _ _
/-- Bias (1, 2). -/
theorem b163 : (val_main_v163 (F := Ideal) x23) = bs x23 1 2 := bs2_12 x23 _ _ _ _

/-- Weight (1, 3). -/
theorem w168 : (val_main_v168 (F := Ideal) x22) = wt x22 1 3 := wt2_13 x22 _ _ _ _
/-- Bias (1, 3). -/
theorem b172 : (val_main_v172 (F := Ideal) x23) = bs x23 1 3 := bs2_13 x23 _ _ _ _

/-- Weight (1, 4). -/
theorem w177 : (val_main_v177 (F := Ideal) x22) = wt x22 1 4 := wt2_14 x22 _ _ _ _
/-- Bias (1, 4). -/
theorem b181 : (val_main_v181 (F := Ideal) x23) = bs x23 1 4 := bs2_14 x23 _ _ _ _

/-! ## The linear layers -/

/-- The words' features. -/
theorem l11 : (val_main_v11 (F := Ideal) x0 x18 x20 x21) = lin (val_main_v6 (F := Ideal) x0 x18) x20 x21 := hostLin_a _ _ _ _ _ _

/-- The rectified features. -/
theorem r133 : (val_main_v133 (F := Ideal) x0 x3 x4 x13 x18 x20 x21 x22 x23) = relu (val_main_v88 (F := Ideal) x0 x3 x4 x13 x18 x20 x21 x22 x23) := by
  funext j; show max ((val_main_v88 (F := Ideal) x0 x3 x4 x13 x18 x20 x21 x22 x23) j) (Ideal.ofBits .f32 0x00000000#32) = _; rw [Ideal.ofBits_zero_f32]; rfl

/-- The rectified features. -/
theorem r135 : (val_main_v135 (F := Ideal) x0 x1 x5 x6 x11 x12 x14 x17 x18 x19 x20 x21 x22 x23) = relu (val_main_v131 (F := Ideal) x0 x1 x5 x6 x11 x12 x14 x17 x18 x19 x20 x21 x22 x23) := by
  funext j; show max ((val_main_v131 (F := Ideal) x0 x1 x5 x6 x11 x12 x14 x17 x18 x19 x20 x21 x22 x23) j) (Ideal.ofBits .f32 0x00000000#32) = _; rw [Ideal.ofBits_zero_f32]; rfl

/-- The rectified features. -/
theorem r229 : (val_main_v229 (F := Ideal) x0 x1 x3 x4 x5 x6 x7 x8 x9 x10 x11 x12 x13 x14 x15 x16 x17 x18 x19 x20 x21 x22 x23) = relu (val_main_v227 (F := Ideal) x0 x1 x3 x4 x5 x6 x7 x8 x9 x10 x11 x12 x13 x14 x15 x16 x17 x18 x19 x20 x21 x22 x23) := by
  funext j; show max ((val_main_v227 (F := Ideal) x0 x1 x3 x4 x5 x6 x7 x8 x9 x10 x11 x12 x13 x14 x15 x16 x17 x18 x19 x20 x21 x22 x23) j) (Ideal.ofBits .f32 0x00000000#32) = _; rw [Ideal.ofBits_zero_f32]; rfl

/-- Linear layer (0, 0). -/
theorem l31 : (val_main_v31 (F := Ideal) x0 x18 x20 x21 x22 x23) = lin (val_main_v11 (F := Ideal) x0 x18 x20 x21) (wt x22 0 0) (bs x23 0 0) :=
  (hostLin_b (val_main_v11 (F := Ideal) x0 x18 x20 x21) (val_main_v24 (F := Ideal) x22) (val_main_v28 (F := Ideal) x23) _ _ _).trans (by rw [w24, b28])

/-- Linear layer (0, 1). -/
theorem l40 : (val_main_v40 (F := Ideal) x0 x18 x20 x21 x22 x23) = lin (val_main_v31 (F := Ideal) x0 x18 x20 x21 x22 x23) (wt x22 0 1) (bs x23 0 1) :=
  (hostLin_b (val_main_v31 (F := Ideal) x0 x18 x20 x21 x22 x23) (val_main_v33 (F := Ideal) x22) (val_main_v37 (F := Ideal) x23) _ _ _).trans (by rw [w33, b37])

/-- Linear layer (0, 2). -/
theorem l49 : (val_main_v49 (F := Ideal) x0 x18 x20 x21 x22 x23) = lin (val_main_v40 (F := Ideal) x0 x18 x20 x21 x22 x23) (wt x22 0 2) (bs x23 0 2) :=
  (hostLin_b (val_main_v40 (F := Ideal) x0 x18 x20 x21 x22 x23) (val_main_v42 (F := Ideal) x22) (val_main_v46 (F := Ideal) x23) _ _ _).trans (by rw [w42, b46])

/-- Linear layer (0, 3). -/
theorem l58 : (val_main_v58 (F := Ideal) x1 x19 x22 x23) = lin (val_main_v18 (F := Ideal) x1 x19) (wt x22 0 3) (bs x23 0 3) :=
  (hostLin_c (val_main_v18 (F := Ideal) x1 x19) (val_main_v51 (F := Ideal) x22) (val_main_v55 (F := Ideal) x23) _ _ _).trans (by rw [w51, b55])

/-- Linear layer (0, 4). -/
theorem l67 : (val_main_v67 (F := Ideal) x1 x19 x22 x23) = lin (val_main_v58 (F := Ideal) x1 x19 x22 x23) (wt x22 0 4) (bs x23 0 4) :=
  (hostLin_c (val_main_v58 (F := Ideal) x1 x19 x22 x23) (val_main_v60 (F := Ideal) x22) (val_main_v64 (F := Ideal) x23) _ _ _).trans (by rw [w60, b64])

/-- Linear layer (1, 0). -/
theorem l148 : (val_main_v148 (F := Ideal) x0 x3 x4 x13 x18 x20 x21 x22 x23) = lin (relu (val_main_v88 (F := Ideal) x0 x3 x4 x13 x18 x20 x21 x22 x23)) (wt x22 1 0) (bs x23 1 0) :=
  (hostLin_b (val_main_v133 (F := Ideal) x0 x3 x4 x13 x18 x20 x21 x22 x23) (val_main_v141 (F := Ideal) x22) (val_main_v145 (F := Ideal) x23) _ _ _).trans (by rw [w141, b145, r133])

/-- Linear layer (1, 1). -/
theorem l157 : (val_main_v157 (F := Ideal) x0 x3 x4 x13 x18 x20 x21 x22 x23) = lin (val_main_v148 (F := Ideal) x0 x3 x4 x13 x18 x20 x21 x22 x23) (wt x22 1 1) (bs x23 1 1) :=
  (hostLin_b (val_main_v148 (F := Ideal) x0 x3 x4 x13 x18 x20 x21 x22 x23) (val_main_v150 (F := Ideal) x22) (val_main_v154 (F := Ideal) x23) _ _ _).trans (by rw [w150, b154])

/-- Linear layer (1, 2). -/
theorem l166 : (val_main_v166 (F := Ideal) x0 x3 x4 x13 x18 x20 x21 x22 x23) = lin (val_main_v157 (F := Ideal) x0 x3 x4 x13 x18 x20 x21 x22 x23) (wt x22 1 2) (bs x23 1 2) :=
  (hostLin_b (val_main_v157 (F := Ideal) x0 x3 x4 x13 x18 x20 x21 x22 x23) (val_main_v159 (F := Ideal) x22) (val_main_v163 (F := Ideal) x23) _ _ _).trans (by rw [w159, b163])

/-- Linear layer (1, 3). -/
theorem l175 : (val_main_v175 (F := Ideal) x0 x1 x5 x6 x11 x12 x14 x17 x18 x19 x20 x21 x22 x23) = lin (relu (val_main_v131 (F := Ideal) x0 x1 x5 x6 x11 x12 x14 x17 x18 x19 x20 x21 x22 x23)) (wt x22 1 3) (bs x23 1 3) :=
  (hostLin_c (val_main_v135 (F := Ideal) x0 x1 x5 x6 x11 x12 x14 x17 x18 x19 x20 x21 x22 x23) (val_main_v168 (F := Ideal) x22) (val_main_v172 (F := Ideal) x23) _ _ _).trans (by rw [w168, b172, r135])

/-- Linear layer (1, 4). -/
theorem l184 : (val_main_v184 (F := Ideal) x0 x1 x5 x6 x11 x12 x14 x17 x18 x19 x20 x21 x22 x23) = lin (val_main_v175 (F := Ideal) x0 x1 x5 x6 x11 x12 x14 x17 x18 x19 x20 x21 x22 x23) (wt x22 1 4) (bs x23 1 4) :=
  (hostLin_c (val_main_v175 (F := Ideal) x0 x1 x5 x6 x11 x12 x14 x17 x18 x19 x20 x21 x22 x23) (val_main_v177 (F := Ideal) x22) (val_main_v181 (F := Ideal) x23) _ _ _).trans (by rw [w177, b181])

/-! ## The means -/

/-- Words to words. -/
theorem a88 : (val_main_v88 (F := Ideal) x0 x3 x4 x13 x18 x20 x21 x22 x23) = meanWW (val_main_v49 (F := Ideal) x0 x18 x20 x21 x22 x23) x3 x4 x13 := rfl
/-- Words to topics and topics to topics, added. -/
theorem a131 : (val_main_v131 (F := Ideal) x0 x1 x5 x6 x11 x12 x14 x17 x18 x19 x20 x21 x22 x23) = fun j => meanWT (val_main_v49 (F := Ideal) x0 x18 x20 x21 x22 x23) x5 x6 x14 j + meanTT (val_main_v67 (F := Ideal) x1 x19 x22 x23) x11 x12 x17 j := rfl
/-- Words to documents and topics to documents, added. -/
theorem a227 : (val_main_v227 (F := Ideal) x0 x1 x3 x4 x5 x6 x7 x8 x9 x10 x11 x12 x13 x14 x15 x16 x17 x18 x19 x20 x21 x22 x23) = fun j => meanWD (val_main_v166 (F := Ideal) x0 x3 x4 x13 x18 x20 x21 x22 x23) x7 x8 x15 j + meanTD (val_main_v184 (F := Ideal) x0 x1 x5 x6 x11 x12 x14 x17 x18 x19 x20 x21 x22 x23) x9 x10 x16 j := rfl

/-! ## Finiteness, and several linear layers as one -/

/-- The words' and topics' looked-up features are finite. -/
theorem f6 (h18 : Reals x18) : Reals (val_main_v6 (F := Ideal) x0 x18) := fun _ => h18 _
/-- The topics' looked-up features are finite. -/
theorem f18 (h19 : Reals x19) : Reals (val_main_v18 (F := Ideal) x1 x19) := fun _ => h19 _

/-- A weight out of a finite stack is finite. -/
theorem wt_reals (h22 : Reals x22) (l : Fin 2) (e : Fin 5) : Reals (wt x22 l e) := fun _ => h22 _

/-- The composition of the three linear layers of the words and of the two of the topics. -/
def wordsW (A B C : Mat 512 512) {k : ℕ} (W : Mat 512 k) : Mat 512 k := compW C (compW B (compW A W))
/-- The composed bias of the words' three layers. -/
def wordsB (A B C : Mat 512 512) (a b c v : Row 512) : Row 512 := compB C c (compB B b (compB A a v))

/-- Four linear layers as one. -/
theorem lin4 {m k : ℕ} {x : Mat m k} {W : Mat 512 k} {A B C : Mat 512 512} (v a b c : Row 512)
    (hx : Reals x) (hW : Reals W) (hA : Reals A) (hB : Reals B) (hC : Reals C) :
    lin (lin (lin (lin x W v) A a) B b) C c = lin x (wordsW A B C W) (wordsB A B C a b c v) := by
  rw [lin_lin v a hx hW hA, lin_lin _ b hx (compW_reals hA hW) hB,
    lin_lin _ c hx (compW_reals hB (compW_reals hA hW)) hC]
  rfl

/-- Three linear layers as one. -/
theorem lin3 {m : ℕ} {x : Mat m 512} {W A B : Mat 512 512} (v a b : Row 512)
    (hx : Reals x) (hW : Reals W) (hA : Reals A) (hB : Reals B) :
    lin (lin (lin x W v) A a) B b = lin x (compW B (compW A W)) (compB B b (compB A a v)) := by
  rw [lin_lin v a hx hW hA, lin_lin _ b hx (compW_reals hA hW) hB]

/-- The words' features after the first layers. -/
theorem c49 (h18 : Reals x18) (h20 : Reals x20) (h22 : Reals x22) :
    (val_main_v49 (F := Ideal) x0 x18 x20 x21 x22 x23) = lin (val_main_v6 (F := Ideal) x0 x18) (wordsW (wt x22 0 0) (wt x22 0 1) (wt x22 0 2) x20)
      (wordsB (wt x22 0 0) (wt x22 0 1) (wt x22 0 2) (bs x23 0 0) (bs x23 0 1) (bs x23 0 2) x21) := by
  rw [l49, l40, l31, l11]
  exact lin4 _ _ _ _ (f6 _ _ h18) h20 (wt_reals _ h22 _ _) (wt_reals _ h22 _ _) (wt_reals _ h22 _ _)

/-- They are finite. -/
theorem f49 (h18 : Reals x18) (h20 : Reals x20) (h21 : Reals x21) (h22 : Reals x22) (h23 : ∀ e, Reals (bs x23 0 e)) : Reals (val_main_v49 (F := Ideal) x0 x18 x20 x21 x22 x23) := by
  rw [l49, l40, l31, l11]
  exact lin_reals (lin_reals (lin_reals (lin_reals (f6 _ _ h18) h20 h21) (wt_reals _ h22 _ _) (h23 _))
    (wt_reals _ h22 _ _) (h23 _)) (wt_reals _ h22 _ _) (h23 _)

/-- The topics' features after the first layers. -/
theorem c67 (h19 : Reals x19) (h22 : Reals x22) :
    (val_main_v67 (F := Ideal) x1 x19 x22 x23) = lin (val_main_v18 (F := Ideal) x1 x19) (compW (wt x22 0 4) (wt x22 0 3)) (compB (wt x22 0 4) (bs x23 0 4) (bs x23 0 3)) := by
  rw [l67, l58]
  exact lin_lin _ _ (f18 _ _ h19) (wt_reals _ h22 _ _) (wt_reals _ h22 _ _)

/-- They are finite. -/
theorem f67 (h19 : Reals x19) (h22 : Reals x22) (h23 : ∀ e, Reals (bs x23 0 e)) : Reals (val_main_v67 (F := Ideal) x1 x19 x22 x23) := by
  rw [l67, l58]
  exact lin_reals (lin_reals (f18 _ _ h19) (wt_reals _ h22 _ _) (h23 _)) (wt_reals _ h22 _ _) (h23 _)

/-- The words' features after the second layers. -/
theorem c166 (h13 : Reals x13) (h18 : Reals x18) (h20 : Reals x20) (h21 : Reals x21) (h22 : Reals x22) (h23 : ∀ e, Reals (bs x23 0 e)) :
    (val_main_v166 (F := Ideal) x0 x3 x4 x13 x18 x20 x21 x22 x23) = lin (relu (val_main_v88 (F := Ideal) x0 x3 x4 x13 x18 x20 x21 x22 x23)) (compW (wt x22 1 2) (compW (wt x22 1 1) (wt x22 1 0)))
      (compB (wt x22 1 2) (bs x23 1 2) (compB (wt x22 1 1) (bs x23 1 1) (bs x23 1 0))) := by
  rw [l166, l157, l148]
  refine lin3 _ _ _ (relu_reals ?_) (wt_reals _ h22 _ _) (wt_reals _ h22 _ _) (wt_reals _ h22 _ _)
  rw [a88]
  exact meanWW_reals (f49 _ _ _ _ _ _ h18 h20 h21 h22 h23) _ _ h13

/-- The topics' features after the second layers. -/
theorem c184 (h14 : Reals x14) (h17 : Reals x17) (h18 : Reals x18) (h19 : Reals x19) (h20 : Reals x20) (h21 : Reals x21)
    (h22 : Reals x22) (h23 : ∀ e, Reals (bs x23 0 e)) :
    (val_main_v184 (F := Ideal) x0 x1 x5 x6 x11 x12 x14 x17 x18 x19 x20 x21 x22 x23) = lin (relu (val_main_v131 (F := Ideal) x0 x1 x5 x6 x11 x12 x14 x17 x18 x19 x20 x21 x22 x23)) (compW (wt x22 1 4) (wt x22 1 3)) (compB (wt x22 1 4) (bs x23 1 4) (bs x23 1 3)) := by
  rw [l184, l175]
  refine lin_lin _ _ (relu_reals ?_) (wt_reals _ h22 _ _) (wt_reals _ h22 _ _)
  rw [a131]
  exact fun i => real_add (meanWT_reals (f49 _ _ _ _ _ _ h18 h20 h21 h22 h23) _ _ h14 i) (meanTT_reals (f67 _ _ _ _ h19 h22 h23) _ _ h17 i)

/-! ## From the documents' features to the results -/

/-- The pooled features, document `k` being in graph `k / 20`. -/
theorem p240 (hids : ∀ k : Fin 2240, x2 (ix1 k) = BitVec.ofNat 32 (k.val / 20)) :
    (val_main_v240 (F := Ideal) x0 x1 x2 x3 x4 x5 x6 x7 x8 x9 x10 x11 x12 x13 x14 x15 x16 x17 x18 x19 x20 x21 x22 x23) = pool (val_main_v227 (F := Ideal) x0 x1 x3 x4 x5 x6 x7 x8 x9 x10 x11 x12 x13 x14 x15 x16 x17 x18 x19 x20 x21 x22 x23) :=
  hostPool (val_main_v227 (F := Ideal) x0 x1 x3 x4 x5 x6 x7 x8 x9 x10 x11 x12 x13 x14 x15 x16 x17 x18 x19 x20 x21 x22 x23) (val_main_v229 (F := Ideal) x0 x1 x3 x4 x5 x6 x7 x8 x9 x10 x11 x12 x13 x14 x15 x16 x17 x18 x19 x20 x21 x22 x23) (r229 _ _ _ _ _ _ _ _ _ _ _ _ _ _ _ _ _ _ _ _ _ _ _) x2 hids _ _ _ _ _ _ _ _ _ _ _ _

/-- The weights and biases of recurrent layer 0. -/
theorem w256 : (val_main_v256 (F := Ideal) x24) = rw3 x24 0 := rw3_0 _ _ _
/-- The second weight of recurrent layer 0. -/
theorem w258 : (val_main_v258 (F := Ideal) x25) = rw3 x25 0 := rw3_0 _ _ _
/-- Its first bias. -/
theorem b260 : (val_main_v260 (F := Ideal) x26) = rb2 x26 0 := rb2_0 _ _ _
/-- Its second bias. -/
theorem b262 : (val_main_v262 (F := Ideal) x27) = rb2 x27 0 := rb2_0 _ _ _

/-- The weights and biases of recurrent layer 1. -/
theorem w349 : (val_main_v349 (F := Ideal) x24) = rw3 x24 1 := rw3_1 _ _ _
/-- The second weight of recurrent layer 1. -/
theorem w351 : (val_main_v351 (F := Ideal) x25) = rw3 x25 1 := rw3_1 _ _ _
/-- Its first bias. -/
theorem b353 : (val_main_v353 (F := Ideal) x26) = rb2 x26 1 := rb2_1 _ _ _
/-- Its second bias. -/
theorem b355 : (val_main_v355 (F := Ideal) x27) = rb2 x27 1 := rb2_1 _ _ _

/-- Step 0. -/
theorem s242 (hids : ∀ k : Fin 2240, x2 (ix1 k) = BitVec.ofNat 32 (k.val / 20)) :
    (val_main_v242 (F := Ideal) x0 x1 x2 x3 x4 x5 x6 x7 x8 x9 x10 x11 x12 x13 x14 x15 x16 x17 x18 x19 x20 x21 x22 x23) = steps (val_main_v227 (F := Ideal) x0 x1 x3 x4 x5 x6 x7 x8 x9 x10 x11 x12 x13 x14 x15 x16 x17 x18 x19 x20 x21 x22 x23) 0 :=
  (at7_0 (val_main_v240 (F := Ideal) x0 x1 x2 x3 x4 x5 x6 x7 x8 x9 x10 x11 x12 x13 x14 x15 x16 x17 x18 x19 x20 x21 x22 x23) _ _).trans (by rw [p240 _ _ _ _ _ _ _ _ _ _ _ _ _ _ _ _ _ _ _ _ _ _ _ _ hids]; rfl)

/-- Step 1. -/
theorem s244 (hids : ∀ k : Fin 2240, x2 (ix1 k) = BitVec.ofNat 32 (k.val / 20)) :
    (val_main_v244 (F := Ideal) x0 x1 x2 x3 x4 x5 x6 x7 x8 x9 x10 x11 x12 x13 x14 x15 x16 x17 x18 x19 x20 x21 x22 x23) = steps (val_main_v227 (F := Ideal) x0 x1 x3 x4 x5 x6 x7 x8 x9 x10 x11 x12 x13 x14 x15 x16 x17 x18 x19 x20 x21 x22 x23) 1 :=
  (at7_1 (val_main_v240 (F := Ideal) x0 x1 x2 x3 x4 x5 x6 x7 x8 x9 x10 x11 x12 x13 x14 x15 x16 x17 x18 x19 x20 x21 x22 x23) _ _).trans (by rw [p240 _ _ _ _ _ _ _ _ _ _ _ _ _ _ _ _ _ _ _ _ _ _ _ _ hids]; rfl)

/-- Step 2. -/
theorem s246 (hids : ∀ k : Fin 2240, x2 (ix1 k) = BitVec.ofNat 32 (k.val / 20)) :
    (val_main_v246 (F := Ideal) x0 x1 x2 x3 x4 x5 x6 x7 x8 x9 x10 x11 x12 x13 x14 x15 x16 x17 x18 x19 x20 x21 x22 x23) = steps (val_main_v227 (F := Ideal) x0 x1 x3 x4 x5 x6 x7 x8 x9 x10 x11 x12 x13 x14 x15 x16 x17 x18 x19 x20 x21 x22 x23) 2 :=
  (at7_2 (val_main_v240 (F := Ideal) x0 x1 x2 x3 x4 x5 x6 x7 x8 x9 x10 x11 x12 x13 x14 x15 x16 x17 x18 x19 x20 x21 x22 x23) _ _).trans (by rw [p240 _ _ _ _ _ _ _ _ _ _ _ _ _ _ _ _ _ _ _ _ _ _ _ _ hids]; rfl)

/-- Step 3. -/
theorem s248 (hids : ∀ k : Fin 2240, x2 (ix1 k) = BitVec.ofNat 32 (k.val / 20)) :
    (val_main_v248 (F := Ideal) x0 x1 x2 x3 x4 x5 x6 x7 x8 x9 x10 x11 x12 x13 x14 x15 x16 x17 x18 x19 x20 x21 x22 x23) = steps (val_main_v227 (F := Ideal) x0 x1 x3 x4 x5 x6 x7 x8 x9 x10 x11 x12 x13 x14 x15 x16 x17 x18 x19 x20 x21 x22 x23) 3 :=
  (at7_3 (val_main_v240 (F := Ideal) x0 x1 x2 x3 x4 x5 x6 x7 x8 x9 x10 x11 x12 x13 x14 x15 x16 x17 x18 x19 x20 x21 x22 x23) _ _).trans (by rw [p240 _ _ _ _ _ _ _ _ _ _ _ _ _ _ _ _ _ _ _ _ _ _ _ _ hids]; rfl)

/-- Step 4. -/
theorem s250 (hids : ∀ k : Fin 2240, x2 (ix1 k) = BitVec.ofNat 32 (k.val / 20)) :
    (val_main_v250 (F := Ideal) x0 x1 x2 x3 x4 x5 x6 x7 x8 x9 x10 x11 x12 x13 x14 x15 x16 x17 x18 x19 x20 x21 x22 x23) = steps (val_main_v227 (F := Ideal) x0 x1 x3 x4 x5 x6 x7 x8 x9 x10 x11 x12 x13 x14 x15 x16 x17 x18 x19 x20 x21 x22 x23) 4 :=
  (at7_4 (val_main_v240 (F := Ideal) x0 x1 x2 x3 x4 x5 x6 x7 x8 x9 x10 x11 x12 x13 x14 x15 x16 x17 x18 x19 x20 x21 x22 x23) _ _).trans (by rw [p240 _ _ _ _ _ _ _ _ _ _ _ _ _ _ _ _ _ _ _ _ _ _ _ _ hids]; rfl)

/-- Step 5. -/
theorem s252 (hids : ∀ k : Fin 2240, x2 (ix1 k) = BitVec.ofNat 32 (k.val / 20)) :
    (val_main_v252 (F := Ideal) x0 x1 x2 x3 x4 x5 x6 x7 x8 x9 x10 x11 x12 x13 x14 x15 x16 x17 x18 x19 x20 x21 x22 x23) = steps (val_main_v227 (F := Ideal) x0 x1 x3 x4 x5 x6 x7 x8 x9 x10 x11 x12 x13 x14 x15 x16 x17 x18 x19 x20 x21 x22 x23) 5 :=
  (at7_5 (val_main_v240 (F := Ideal) x0 x1 x2 x3 x4 x5 x6 x7 x8 x9 x10 x11 x12 x13 x14 x15 x16 x17 x18 x19 x20 x21 x22 x23) _ _).trans (by rw [p240 _ _ _ _ _ _ _ _ _ _ _ _ _ _ _ _ _ _ _ _ _ _ _ _ hids]; rfl)

/-- Step 6. -/
theorem s254 (hids : ∀ k : Fin 2240, x2 (ix1 k) = BitVec.ofNat 32 (k.val / 20)) :
    (val_main_v254 (F := Ideal) x0 x1 x2 x3 x4 x5 x6 x7 x8 x9 x10 x11 x12 x13 x14 x15 x16 x17 x18 x19 x20 x21 x22 x23) = steps (val_main_v227 (F := Ideal) x0 x1 x3 x4 x5 x6 x7 x8 x9 x10 x11 x12 x13 x14 x15 x16 x17 x18 x19 x20 x21 x22 x23) 6 :=
  (at7_6 (val_main_v240 (F := Ideal) x0 x1 x2 x3 x4 x5 x6 x7 x8 x9 x10 x11 x12 x13 x14 x15 x16 x17 x18 x19 x20 x21 x22 x23) _ _).trans (by rw [p240 _ _ _ _ _ _ _ _ _ _ _ _ _ _ _ _ _ _ _ _ _ _ _ _ hids]; rfl)

/-- The zero state. -/
theorem z263 : (val_main_v263 (F := Ideal)) = fun _ => 0 := by
  funext j; show Ideal.ofBits .f32 0x00000000#32 = _; rw [Ideal.ofBits_zero_f32]

/-- The zero state. -/
theorem z356 : (val_main_v356 (F := Ideal)) = fun _ => 0 := by
  funext j; show Ideal.ofBits .f32 0x00000000#32 = _; rw [Ideal.ofBits_zero_f32]

/-- The states of the first recurrent layer. -/
abbrev h1 : ℕ → Mat 16 512 := hid (steps (val_main_v227 (F := Ideal) x0 x1 x3 x4 x5 x6 x7 x8 x9 x10 x11 x12 x13 x14 x15 x16 x17 x18 x19 x20 x21 x22 x23)) (tr (rw3 x24 0)) (asRow (rb2 x26 0)) (tr (rw3 x25 0)) (asRow (rb2 x27 0))
/-- The states of the second. -/
abbrev h2 : ℕ → Mat 16 512 := hid (h1 x0 x1 x3 x4 x5 x6 x7 x8 x9 x10 x11 x12 x13 x14 x15 x16 x17 x18 x19 x20 x21 x22 x23 x24 x25 x26 x27) (tr (rw3 x24 1)) (asRow (rb2 x26 1)) (tr (rw3 x25 1)) (asRow (rb2 x27 1))

/-- State 0 of the first layer. -/
theorem n275 (hids : ∀ k : Fin 2240, x2 (ix1 k) = BitVec.ofNat 32 (k.val / 20)) : (val_main_v275 (F := Ideal) x0 x1 x2 x3 x4 x5 x6 x7 x8 x9 x10 x11 x12 x13 x14 x15 x16 x17 x18 x19 x20 x21 x22 x23 x24 x25 x26 x27) = h1 x0 x1 x3 x4 x5 x6 x7 x8 x9 x10 x11 x12 x13 x14 x15 x16 x17 x18 x19 x20 x21 x22 x23 x24 x25 x26 x27 0 :=
  (hostCell (val_main_v242 (F := Ideal) x0 x1 x2 x3 x4 x5 x6 x7 x8 x9 x10 x11 x12 x13 x14 x15 x16 x17 x18 x19 x20 x21 x22 x23) (val_main_v263 (F := Ideal)) (val_main_v256 (F := Ideal) x24) (val_main_v258 (F := Ideal) x25) (val_main_v260 (F := Ideal) x26) (val_main_v262 (F := Ideal) x27) _ _ _ _ _ _).trans
    (by rw [s242 _ _ _ _ _ _ _ _ _ _ _ _ _ _ _ _ _ _ _ _ _ _ _ _ hids, z263, w256, w258, b260, b262]; rfl)

/-- State 1 of the first layer. -/
theorem n287 (hids : ∀ k : Fin 2240, x2 (ix1 k) = BitVec.ofNat 32 (k.val / 20)) : (val_main_v287 (F := Ideal) x0 x1 x2 x3 x4 x5 x6 x7 x8 x9 x10 x11 x12 x13 x14 x15 x16 x17 x18 x19 x20 x21 x22 x23 x24 x25 x26 x27) = h1 x0 x1 x3 x4 x5 x6 x7 x8 x9 x10 x11 x12 x13 x14 x15 x16 x17 x18 x19 x20 x21 x22 x23 x24 x25 x26 x27 1 :=
  (hostCell (val_main_v244 (F := Ideal) x0 x1 x2 x3 x4 x5 x6 x7 x8 x9 x10 x11 x12 x13 x14 x15 x16 x17 x18 x19 x20 x21 x22 x23) (val_main_v275 (F := Ideal) x0 x1 x2 x3 x4 x5 x6 x7 x8 x9 x10 x11 x12 x13 x14 x15 x16 x17 x18 x19 x20 x21 x22 x23 x24 x25 x26 x27) (val_main_v256 (F := Ideal) x24) (val_main_v258 (F := Ideal) x25) (val_main_v260 (F := Ideal) x26) (val_main_v262 (F := Ideal) x27) _ _ _ _ _ _).trans
    (by rw [s244 _ _ _ _ _ _ _ _ _ _ _ _ _ _ _ _ _ _ _ _ _ _ _ _ hids, n275 _ _ _ _ _ _ _ _ _ _ _ _ _ _ _ _ _ _ _ _ _ _ _ _ _ _ _ _ hids, w256, w258, b260, b262]; rfl)

/-- State 2 of the first layer. -/
theorem n299 (hids : ∀ k : Fin 2240, x2 (ix1 k) = BitVec.ofNat 32 (k.val / 20)) : (val_main_v299 (F := Ideal) x0 x1 x2 x3 x4 x5 x6 x7 x8 x9 x10 x11 x12 x13 x14 x15 x16 x17 x18 x19 x20 x21 x22 x23 x24 x25 x26 x27) = h1 x0 x1 x3 x4 x5 x6 x7 x8 x9 x10 x11 x12 x13 x14 x15 x16 x17 x18 x19 x20 x21 x22 x23 x24 x25 x26 x27 2 :=
  (hostCell (val_main_v246 (F := Ideal) x0 x1 x2 x3 x4 x5 x6 x7 x8 x9 x10 x11 x12 x13 x14 x15 x16 x17 x18 x19 x20 x21 x22 x23) (val_main_v287 (F := Ideal) x0 x1 x2 x3 x4 x5 x6 x7 x8 x9 x10 x11 x12 x13 x14 x15 x16 x17 x18 x19 x20 x21 x22 x23 x24 x25 x26 x27) (val_main_v256 (F := Ideal) x24) (val_main_v258 (F := Ideal) x25) (val_main_v260 (F := Ideal) x26) (val_main_v262 (F := Ideal) x27) _ _ _ _ _ _).trans
    (by rw [s246 _ _ _ _ _ _ _ _ _ _ _ _ _ _ _ _ _ _ _ _ _ _ _ _ hids, n287 _ _ _ _ _ _ _ _ _ _ _ _ _ _ _ _ _ _ _ _ _ _ _ _ _ _ _ _ hids, w256, w258, b260, b262]; rfl)

/-- State 3 of the first layer. -/
theorem n311 (hids : ∀ k : Fin 2240, x2 (ix1 k) = BitVec.ofNat 32 (k.val / 20)) : (val_main_v311 (F := Ideal) x0 x1 x2 x3 x4 x5 x6 x7 x8 x9 x10 x11 x12 x13 x14 x15 x16 x17 x18 x19 x20 x21 x22 x23 x24 x25 x26 x27) = h1 x0 x1 x3 x4 x5 x6 x7 x8 x9 x10 x11 x12 x13 x14 x15 x16 x17 x18 x19 x20 x21 x22 x23 x24 x25 x26 x27 3 :=
  (hostCell (val_main_v248 (F := Ideal) x0 x1 x2 x3 x4 x5 x6 x7 x8 x9 x10 x11 x12 x13 x14 x15 x16 x17 x18 x19 x20 x21 x22 x23) (val_main_v299 (F := Ideal) x0 x1 x2 x3 x4 x5 x6 x7 x8 x9 x10 x11 x12 x13 x14 x15 x16 x17 x18 x19 x20 x21 x22 x23 x24 x25 x26 x27) (val_main_v256 (F := Ideal) x24) (val_main_v258 (F := Ideal) x25) (val_main_v260 (F := Ideal) x26) (val_main_v262 (F := Ideal) x27) _ _ _ _ _ _).trans
    (by rw [s248 _ _ _ _ _ _ _ _ _ _ _ _ _ _ _ _ _ _ _ _ _ _ _ _ hids, n299 _ _ _ _ _ _ _ _ _ _ _ _ _ _ _ _ _ _ _ _ _ _ _ _ _ _ _ _ hids, w256, w258, b260, b262]; rfl)

/-- State 4 of the first layer. -/
theorem n323 (hids : ∀ k : Fin 2240, x2 (ix1 k) = BitVec.ofNat 32 (k.val / 20)) : (val_main_v323 (F := Ideal) x0 x1 x2 x3 x4 x5 x6 x7 x8 x9 x10 x11 x12 x13 x14 x15 x16 x17 x18 x19 x20 x21 x22 x23 x24 x25 x26 x27) = h1 x0 x1 x3 x4 x5 x6 x7 x8 x9 x10 x11 x12 x13 x14 x15 x16 x17 x18 x19 x20 x21 x22 x23 x24 x25 x26 x27 4 :=
  (hostCell (val_main_v250 (F := Ideal) x0 x1 x2 x3 x4 x5 x6 x7 x8 x9 x10 x11 x12 x13 x14 x15 x16 x17 x18 x19 x20 x21 x22 x23) (val_main_v311 (F := Ideal) x0 x1 x2 x3 x4 x5 x6 x7 x8 x9 x10 x11 x12 x13 x14 x15 x16 x17 x18 x19 x20 x21 x22 x23 x24 x25 x26 x27) (val_main_v256 (F := Ideal) x24) (val_main_v258 (F := Ideal) x25) (val_main_v260 (F := Ideal) x26) (val_main_v262 (F := Ideal) x27) _ _ _ _ _ _).trans
    (by rw [s250 _ _ _ _ _ _ _ _ _ _ _ _ _ _ _ _ _ _ _ _ _ _ _ _ hids, n311 _ _ _ _ _ _ _ _ _ _ _ _ _ _ _ _ _ _ _ _ _ _ _ _ _ _ _ _ hids, w256, w258, b260, b262]; rfl)

/-- State 5 of the first layer. -/
theorem n335 (hids : ∀ k : Fin 2240, x2 (ix1 k) = BitVec.ofNat 32 (k.val / 20)) : (val_main_v335 (F := Ideal) x0 x1 x2 x3 x4 x5 x6 x7 x8 x9 x10 x11 x12 x13 x14 x15 x16 x17 x18 x19 x20 x21 x22 x23 x24 x25 x26 x27) = h1 x0 x1 x3 x4 x5 x6 x7 x8 x9 x10 x11 x12 x13 x14 x15 x16 x17 x18 x19 x20 x21 x22 x23 x24 x25 x26 x27 5 :=
  (hostCell (val_main_v252 (F := Ideal) x0 x1 x2 x3 x4 x5 x6 x7 x8 x9 x10 x11 x12 x13 x14 x15 x16 x17 x18 x19 x20 x21 x22 x23) (val_main_v323 (F := Ideal) x0 x1 x2 x3 x4 x5 x6 x7 x8 x9 x10 x11 x12 x13 x14 x15 x16 x17 x18 x19 x20 x21 x22 x23 x24 x25 x26 x27) (val_main_v256 (F := Ideal) x24) (val_main_v258 (F := Ideal) x25) (val_main_v260 (F := Ideal) x26) (val_main_v262 (F := Ideal) x27) _ _ _ _ _ _).trans
    (by rw [s252 _ _ _ _ _ _ _ _ _ _ _ _ _ _ _ _ _ _ _ _ _ _ _ _ hids, n323 _ _ _ _ _ _ _ _ _ _ _ _ _ _ _ _ _ _ _ _ _ _ _ _ _ _ _ _ hids, w256, w258, b260, b262]; rfl)

/-- State 6 of the first layer. -/
theorem n347 (hids : ∀ k : Fin 2240, x2 (ix1 k) = BitVec.ofNat 32 (k.val / 20)) : (val_main_v347 (F := Ideal) x0 x1 x2 x3 x4 x5 x6 x7 x8 x9 x10 x11 x12 x13 x14 x15 x16 x17 x18 x19 x20 x21 x22 x23 x24 x25 x26 x27) = h1 x0 x1 x3 x4 x5 x6 x7 x8 x9 x10 x11 x12 x13 x14 x15 x16 x17 x18 x19 x20 x21 x22 x23 x24 x25 x26 x27 6 :=
  (hostCell (val_main_v254 (F := Ideal) x0 x1 x2 x3 x4 x5 x6 x7 x8 x9 x10 x11 x12 x13 x14 x15 x16 x17 x18 x19 x20 x21 x22 x23) (val_main_v335 (F := Ideal) x0 x1 x2 x3 x4 x5 x6 x7 x8 x9 x10 x11 x12 x13 x14 x15 x16 x17 x18 x19 x20 x21 x22 x23 x24 x25 x26 x27) (val_main_v256 (F := Ideal) x24) (val_main_v258 (F := Ideal) x25) (val_main_v260 (F := Ideal) x26) (val_main_v262 (F := Ideal) x27) _ _ _ _ _ _).trans
    (by rw [s254 _ _ _ _ _ _ _ _ _ _ _ _ _ _ _ _ _ _ _ _ _ _ _ _ hids, n335 _ _ _ _ _ _ _ _ _ _ _ _ _ _ _ _ _ _ _ _ _ _ _ _ _ _ _ _ hids, w256, w258, b260, b262]; rfl)

/-- State 0 of the second layer. -/
theorem n368 (hids : ∀ k : Fin 2240, x2 (ix1 k) = BitVec.ofNat 32 (k.val / 20)) : (val_main_v368 (F := Ideal) x0 x1 x2 x3 x4 x5 x6 x7 x8 x9 x10 x11 x12 x13 x14 x15 x16 x17 x18 x19 x20 x21 x22 x23 x24 x25 x26 x27) = h2 x0 x1 x3 x4 x5 x6 x7 x8 x9 x10 x11 x12 x13 x14 x15 x16 x17 x18 x19 x20 x21 x22 x23 x24 x25 x26 x27 0 :=
  (hostCell (val_main_v275 (F := Ideal) x0 x1 x2 x3 x4 x5 x6 x7 x8 x9 x10 x11 x12 x13 x14 x15 x16 x17 x18 x19 x20 x21 x22 x23 x24 x25 x26 x27) (val_main_v356 (F := Ideal)) (val_main_v349 (F := Ideal) x24) (val_main_v351 (F := Ideal) x25) (val_main_v353 (F := Ideal) x26) (val_main_v355 (F := Ideal) x27) _ _ _ _ _ _).trans
    (by rw [n275 _ _ _ _ _ _ _ _ _ _ _ _ _ _ _ _ _ _ _ _ _ _ _ _ _ _ _ _ hids, z356, w349, w351, b353, b355]; rfl)

/-- State 1 of the second layer. -/
theorem n380 (hids : ∀ k : Fin 2240, x2 (ix1 k) = BitVec.ofNat 32 (k.val / 20)) : (val_main_v380 (F := Ideal) x0 x1 x2 x3 x4 x5 x6 x7 x8 x9 x10 x11 x12 x13 x14 x15 x16 x17 x18 x19 x20 x21 x22 x23 x24 x25 x26 x27) = h2 x0 x1 x3 x4 x5 x6 x7 x8 x9 x10 x11 x12 x13 x14 x15 x16 x17 x18 x19 x20 x21 x22 x23 x24 x25 x26 x27 1 :=
  (hostCell (val_main_v287 (F := Ideal) x0 x1 x2 x3 x4 x5 x6 x7 x8 x9 x10 x11 x12 x13 x14 x15 x16 x17 x18 x19 x20 x21 x22 x23 x24 x25 x26 x27) (val_main_v368 (F := Ideal) x0 x1 x2 x3 x4 x5 x6 x7 x8 x9 x10 x11 x12 x13 x14 x15 x16 x17 x18 x19 x20 x21 x22 x23 x24 x25 x26 x27) (val_main_v349 (F := Ideal) x24) (val_main_v351 (F := Ideal) x25) (val_main_v353 (F := Ideal) x26) (val_main_v355 (F := Ideal) x27) _ _ _ _ _ _).trans
    (by rw [n287 _ _ _ _ _ _ _ _ _ _ _ _ _ _ _ _ _ _ _ _ _ _ _ _ _ _ _ _ hids, n368 _ _ _ _ _ _ _ _ _ _ _ _ _ _ _ _ _ _ _ _ _ _ _ _ _ _ _ _ hids, w349, w351, b353, b355]; rfl)

/-- State 2 of the second layer. -/
theorem n392 (hids : ∀ k : Fin 2240, x2 (ix1 k) = BitVec.ofNat 32 (k.val / 20)) : (val_main_v392 (F := Ideal) x0 x1 x2 x3 x4 x5 x6 x7 x8 x9 x10 x11 x12 x13 x14 x15 x16 x17 x18 x19 x20 x21 x22 x23 x24 x25 x26 x27) = h2 x0 x1 x3 x4 x5 x6 x7 x8 x9 x10 x11 x12 x13 x14 x15 x16 x17 x18 x19 x20 x21 x22 x23 x24 x25 x26 x27 2 :=
  (hostCell (val_main_v299 (F := Ideal) x0 x1 x2 x3 x4 x5 x6 x7 x8 x9 x10 x11 x12 x13 x14 x15 x16 x17 x18 x19 x20 x21 x22 x23 x24 x25 x26 x27) (val_main_v380 (F := Ideal) x0 x1 x2 x3 x4 x5 x6 x7 x8 x9 x10 x11 x12 x13 x14 x15 x16 x17 x18 x19 x20 x21 x22 x23 x24 x25 x26 x27) (val_main_v349 (F := Ideal) x24) (val_main_v351 (F := Ideal) x25) (val_main_v353 (F := Ideal) x26) (val_main_v355 (F := Ideal) x27) _ _ _ _ _ _).trans
    (by rw [n299 _ _ _ _ _ _ _ _ _ _ _ _ _ _ _ _ _ _ _ _ _ _ _ _ _ _ _ _ hids, n380 _ _ _ _ _ _ _ _ _ _ _ _ _ _ _ _ _ _ _ _ _ _ _ _ _ _ _ _ hids, w349, w351, b353, b355]; rfl)

/-- State 3 of the second layer. -/
theorem n404 (hids : ∀ k : Fin 2240, x2 (ix1 k) = BitVec.ofNat 32 (k.val / 20)) : (val_main_v404 (F := Ideal) x0 x1 x2 x3 x4 x5 x6 x7 x8 x9 x10 x11 x12 x13 x14 x15 x16 x17 x18 x19 x20 x21 x22 x23 x24 x25 x26 x27) = h2 x0 x1 x3 x4 x5 x6 x7 x8 x9 x10 x11 x12 x13 x14 x15 x16 x17 x18 x19 x20 x21 x22 x23 x24 x25 x26 x27 3 :=
  (hostCell (val_main_v311 (F := Ideal) x0 x1 x2 x3 x4 x5 x6 x7 x8 x9 x10 x11 x12 x13 x14 x15 x16 x17 x18 x19 x20 x21 x22 x23 x24 x25 x26 x27) (val_main_v392 (F := Ideal) x0 x1 x2 x3 x4 x5 x6 x7 x8 x9 x10 x11 x12 x13 x14 x15 x16 x17 x18 x19 x20 x21 x22 x23 x24 x25 x26 x27) (val_main_v349 (F := Ideal) x24) (val_main_v351 (F := Ideal) x25) (val_main_v353 (F := Ideal) x26) (val_main_v355 (F := Ideal) x27) _ _ _ _ _ _).trans
    (by rw [n311 _ _ _ _ _ _ _ _ _ _ _ _ _ _ _ _ _ _ _ _ _ _ _ _ _ _ _ _ hids, n392 _ _ _ _ _ _ _ _ _ _ _ _ _ _ _ _ _ _ _ _ _ _ _ _ _ _ _ _ hids, w349, w351, b353, b355]; rfl)

/-- State 4 of the second layer. -/
theorem n416 (hids : ∀ k : Fin 2240, x2 (ix1 k) = BitVec.ofNat 32 (k.val / 20)) : (val_main_v416 (F := Ideal) x0 x1 x2 x3 x4 x5 x6 x7 x8 x9 x10 x11 x12 x13 x14 x15 x16 x17 x18 x19 x20 x21 x22 x23 x24 x25 x26 x27) = h2 x0 x1 x3 x4 x5 x6 x7 x8 x9 x10 x11 x12 x13 x14 x15 x16 x17 x18 x19 x20 x21 x22 x23 x24 x25 x26 x27 4 :=
  (hostCell (val_main_v323 (F := Ideal) x0 x1 x2 x3 x4 x5 x6 x7 x8 x9 x10 x11 x12 x13 x14 x15 x16 x17 x18 x19 x20 x21 x22 x23 x24 x25 x26 x27) (val_main_v404 (F := Ideal) x0 x1 x2 x3 x4 x5 x6 x7 x8 x9 x10 x11 x12 x13 x14 x15 x16 x17 x18 x19 x20 x21 x22 x23 x24 x25 x26 x27) (val_main_v349 (F := Ideal) x24) (val_main_v351 (F := Ideal) x25) (val_main_v353 (F := Ideal) x26) (val_main_v355 (F := Ideal) x27) _ _ _ _ _ _).trans
    (by rw [n323 _ _ _ _ _ _ _ _ _ _ _ _ _ _ _ _ _ _ _ _ _ _ _ _ _ _ _ _ hids, n404 _ _ _ _ _ _ _ _ _ _ _ _ _ _ _ _ _ _ _ _ _ _ _ _ _ _ _ _ hids, w349, w351, b353, b355]; rfl)

/-- State 5 of the second layer. -/
theorem n428 (hids : ∀ k : Fin 2240, x2 (ix1 k) = BitVec.ofNat 32 (k.val / 20)) : (val_main_v428 (F := Ideal) x0 x1 x2 x3 x4 x5 x6 x7 x8 x9 x10 x11 x12 x13 x14 x15 x16 x17 x18 x19 x20 x21 x22 x23 x24 x25 x26 x27) = h2 x0 x1 x3 x4 x5 x6 x7 x8 x9 x10 x11 x12 x13 x14 x15 x16 x17 x18 x19 x20 x21 x22 x23 x24 x25 x26 x27 5 :=
  (hostCell (val_main_v335 (F := Ideal) x0 x1 x2 x3 x4 x5 x6 x7 x8 x9 x10 x11 x12 x13 x14 x15 x16 x17 x18 x19 x20 x21 x22 x23 x24 x25 x26 x27) (val_main_v416 (F := Ideal) x0 x1 x2 x3 x4 x5 x6 x7 x8 x9 x10 x11 x12 x13 x14 x15 x16 x17 x18 x19 x20 x21 x22 x23 x24 x25 x26 x27) (val_main_v349 (F := Ideal) x24) (val_main_v351 (F := Ideal) x25) (val_main_v353 (F := Ideal) x26) (val_main_v355 (F := Ideal) x27) _ _ _ _ _ _).trans
    (by rw [n335 _ _ _ _ _ _ _ _ _ _ _ _ _ _ _ _ _ _ _ _ _ _ _ _ _ _ _ _ hids, n416 _ _ _ _ _ _ _ _ _ _ _ _ _ _ _ _ _ _ _ _ _ _ _ _ _ _ _ _ hids, w349, w351, b353, b355]; rfl)

/-- State 6 of the second layer. -/
theorem n440 (hids : ∀ k : Fin 2240, x2 (ix1 k) = BitVec.ofNat 32 (k.val / 20)) : (val_main_v440 (F := Ideal) x0 x1 x2 x3 x4 x5 x6 x7 x8 x9 x10 x11 x12 x13 x14 x15 x16 x17 x18 x19 x20 x21 x22 x23 x24 x25 x26 x27) = h2 x0 x1 x3 x4 x5 x6 x7 x8 x9 x10 x11 x12 x13 x14 x15 x16 x17 x18 x19 x20 x21 x22 x23 x24 x25 x26 x27 6 :=
  (hostCell (val_main_v347 (F := Ideal) x0 x1 x2 x3 x4 x5 x6 x7 x8 x9 x10 x11 x12 x13 x14 x15 x16 x17 x18 x19 x20 x21 x22 x23 x24 x25 x26 x27) (val_main_v428 (F := Ideal) x0 x1 x2 x3 x4 x5 x6 x7 x8 x9 x10 x11 x12 x13 x14 x15 x16 x17 x18 x19 x20 x21 x22 x23 x24 x25 x26 x27) (val_main_v349 (F := Ideal) x24) (val_main_v351 (F := Ideal) x25) (val_main_v353 (F := Ideal) x26) (val_main_v355 (F := Ideal) x27) _ _ _ _ _ _).trans
    (by rw [n347 _ _ _ _ _ _ _ _ _ _ _ _ _ _ _ _ _ _ _ _ _ _ _ _ _ _ _ _ hids, n428 _ _ _ _ _ _ _ _ _ _ _ _ _ _ _ _ _ _ _ _ _ _ _ _ _ _ _ _ hids, w349, w351, b353, b355]; rfl)

/-- The scores. -/
theorem n445 (hids : ∀ k : Fin 2240, x2 (ix1 k) = BitVec.ofNat 32 (k.val / 20)) : (val_main_v445 (F := Ideal) x0 x1 x2 x3 x4 x5 x6 x7 x8 x9 x10 x11 x12 x13 x14 x15 x16 x17 x18 x19 x20 x21 x22 x23 x24 x25 x26 x27 x28 x29) = score (val_main_v227 (F := Ideal) x0 x1 x3 x4 x5 x6 x7 x8 x9 x10 x11 x12 x13 x14 x15 x16 x17 x18 x19 x20 x21 x22 x23) (tr (rw3 x24 0)) (asRow (rb2 x26 0)) (tr (rw3 x25 0)) (asRow (rb2 x27 0))
    (tr (rw3 x24 1)) (asRow (rb2 x26 1)) (tr (rw3 x25 1)) (asRow (rb2 x27 1)) (tr x28) (asRow x29) :=
  (hostLin_d (val_main_v440 (F := Ideal) x0 x1 x2 x3 x4 x5 x6 x7 x8 x9 x10 x11 x12 x13 x14 x15 x16 x17 x18 x19 x20 x21 x22 x23 x24 x25 x26 x27) x28 x29 _ _ _).trans (by rw [n440 _ _ _ _ _ _ _ _ _ _ _ _ _ _ _ _ _ _ _ _ _ _ _ _ _ _ _ _ hids]; rfl)

/-- The reference's loss. -/
theorem r457 (hids : ∀ k : Fin 2240, x2 (ix1 k) = BitVec.ofNat 32 (k.val / 20)) : (val_main_v457 (F := Ideal) x0 x1 x2 x3 x4 x5 x6 x7 x8 x9 x10 x11 x12 x13 x14 x15 x16 x17 x18 x19 x20 x21 x22 x23 x24 x25 x26 x27 x28 x29 x30) = fun _ => loss (score (val_main_v227 (F := Ideal) x0 x1 x3 x4 x5 x6 x7 x8 x9 x10 x11 x12 x13 x14 x15 x16 x17 x18 x19 x20 x21 x22 x23) (tr (rw3 x24 0)) (asRow (rb2 x26 0)) (tr (rw3 x25 0)) (asRow (rb2 x27 0))
    (tr (rw3 x24 1)) (asRow (rb2 x26 1)) (tr (rw3 x25 1)) (asRow (rb2 x27 1)) (tr x28) (asRow x29)) (asRow x30) :=
  (hostLoss (val_main_v445 (F := Ideal) x0 x1 x2 x3 x4 x5 x6 x7 x8 x9 x10 x11 x12 x13 x14 x15 x16 x17 x18 x19 x20 x21 x22 x23 x24 x25 x26 x27 x28 x29) x30 _ _ _ _).trans (by rw [n445 _ _ _ _ _ _ _ _ _ _ _ _ _ _ _ _ _ _ _ _ _ _ _ _ _ _ _ _ _ _ hids])

/-- The reference's logistic values. -/
theorem r463 (hids : ∀ k : Fin 2240, x2 (ix1 k) = BitVec.ofNat 32 (k.val / 20)) : (val_main_v463 (F := Ideal) x0 x1 x2 x3 x4 x5 x6 x7 x8 x9 x10 x11 x12 x13 x14 x15 x16 x17 x18 x19 x20 x21 x22 x23 x24 x25 x26 x27 x28 x29) = fun j => Ideal.logistic (score (val_main_v227 (F := Ideal) x0 x1 x3 x4 x5 x6 x7 x8 x9 x10 x11 x12 x13 x14 x15 x16 x17 x18 x19 x20 x21 x22 x23) (tr (rw3 x24 0)) (asRow (rb2 x26 0)) (tr (rw3 x25 0)) (asRow (rb2 x27 0))
    (tr (rw3 x24 1)) (asRow (rb2 x26 1)) (tr (rw3 x25 1)) (asRow (rb2 x27 1)) (tr x28) (asRow x29) (ix2 (j 0) 0)) :=
  (hostSigmoid (val_main_v445 (F := Ideal) x0 x1 x2 x3 x4 x5 x6 x7 x8 x9 x10 x11 x12 x13 x14 x15 x16 x17 x18 x19 x20 x21 x22 x23 x24 x25 x26 x27 x28 x29) _ _ _).trans (by rw [n445 _ _ _ _ _ _ _ _ _ _ _ _ _ _ _ _ _ _ _ _ _ _ _ _ _ _ _ _ _ _ hids])

end Cert.Net.Ref
-- ==== Proof.Host.lean ====
/- What the host computes before, between and after the calls, as the maps of the model. -/
module

public import proofs.«01_k».proof.Proof.Ref
public import proofs.«01_k».proof.Proof.Gen.KernelIdeal.Frame
public import Idealize.ShloMosaic.Lib.StableHlo.RunRead

@[expose] public section

set_option maxHeartbeats 400000

noncomputable section

open Idealize.ShloMosaic Idealize.ShloMosaic.TcCoe Idealize.SL.Sem
open Cert.KernelIdeal Cert.KernelIdeal.Gen
open scoped BigOperators

namespace Cert.Net.Host

open Cert.Net.Ref (meanWW meanWT meanTT meanWD meanTD wordsW wordsB)

/-- The composed weights and biases as the host spells them. -/
theorem kW_a (A : FVec Ideal S512x512 .f32) (W : FVec Ideal S512x256 .f32) :
    Host.dotGeneral dot_S512x512_S512x256_S512x256_1_0_0_1_n_n none A W = compW A W := hostComp_a A W
/-- A product of two square weights is the composed weight. -/
theorem kW_b (A W : FVec Ideal S512x512 .f32) :
    Host.dotGeneral dot_S512x512_S512x512_S512x512_1_0_0_1_n_n none A W = compW A W := hostComp_b A W
/-- A bias row through a weight plus a bias is the composed bias. -/
theorem kB (A : FVec Ideal S512x512 .f32) (c b : FVec Ideal S512 .f32) :
    addf (Host.dotGeneral dot_S512_S512x512_S512_0_0_n_1_n_n none b (transpose S512x512 [1, 0] A transposes_S512x512_S512x512_1_0)) c = compB A c b :=
  hostCompB _ ⟨rfl, rfl, rfl, rfl, rfl, rfl⟩ A c b _

variable (V : Valuation τ sig (Elt Ideal))

/-! ## Before the first call -/

/-- Weight (0, 0). -/
theorem h1 : StableHlo.after (hostOps0 (F := Ideal)) V (Proc.devRef .tc main_v1) = (wt (V (Proc.devRef .tc main_arg22)) 0 0) := by
  after_reads_simp
  exact wt1_00 _ _ _

/-- Weight (0, 1). -/
theorem h3 : StableHlo.after (hostOps0 (F := Ideal)) V (Proc.devRef .tc main_v3) = (wt (V (Proc.devRef .tc main_arg22)) 0 1) := by
  after_reads_simp
  exact wt1_01 _ _ _

/-- Weight (0, 2). -/
theorem h5 : StableHlo.after (hostOps0 (F := Ideal)) V (Proc.devRef .tc main_v5) = (wt (V (Proc.devRef .tc main_arg22)) 0 2) := by
  after_reads_simp
  exact wt1_02 _ _ _

/-- Weight (0, 3). -/
theorem h25 : StableHlo.after (hostOps0 (F := Ideal)) V (Proc.devRef .tc main_v25) = (wt (V (Proc.devRef .tc main_arg22)) 0 3) := by
  after_reads_simp
  exact wt1_03 _ _ _

/-- Weight (0, 4). -/
theorem h27 : StableHlo.after (hostOps0 (F := Ideal)) V (Proc.devRef .tc main_v27) = (wt (V (Proc.devRef .tc main_arg22)) 0 4) := by
  after_reads_simp
  exact wt1_04 _ _ _

/-- Weight (1, 0). -/
theorem h37 : StableHlo.after (hostOps0 (F := Ideal)) V (Proc.devRef .tc main_v37) = (wt (V (Proc.devRef .tc main_arg22)) 1 0) := by
  after_reads_simp
  exact wt1_10 _ _ _

/-- Weight (1, 1). -/
theorem h39 : StableHlo.after (hostOps0 (F := Ideal)) V (Proc.devRef .tc main_v39) = (wt (V (Proc.devRef .tc main_arg22)) 1 1) := by
  after_reads_simp
  exact wt1_11 _ _ _

/-- Weight (1, 2). -/
theorem h41 : StableHlo.after (hostOps0 (F := Ideal)) V (Proc.devRef .tc main_v41) = (wt (V (Proc.devRef .tc main_arg22)) 1 2) := by
  after_reads_simp
  exact wt1_12 _ _ _

/-- Weight (1, 3). -/
theorem h57 : StableHlo.after (hostOps0 (F := Ideal)) V (Proc.devRef .tc main_v57) = (wt (V (Proc.devRef .tc main_arg22)) 1 3) := by
  after_reads_simp
  exact wt1_13 _ _ _

/-- Weight (1, 4). -/
theorem h59 : StableHlo.after (hostOps0 (F := Ideal)) V (Proc.devRef .tc main_v59) = (wt (V (Proc.devRef .tc main_arg22)) 1 4) := by
  after_reads_simp
  exact wt1_14 _ _ _

/-- Bias (0, 0). -/
theorem h7 : StableHlo.after (hostOps0 (F := Ideal)) V (Proc.devRef .tc main_v7) = (bs (V (Proc.devRef .tc main_arg23)) 0 0) := by
  after_reads_simp
  exact bs1_00 _ _ _

/-- Bias (0, 1). -/
theorem h9 : StableHlo.after (hostOps0 (F := Ideal)) V (Proc.devRef .tc main_v9) = (bs (V (Proc.devRef .tc main_arg23)) 0 1) := by
  after_reads_simp
  exact bs1_01 _ _ _

/-- Bias (0, 2). -/
theorem h11 : StableHlo.after (hostOps0 (F := Ideal)) V (Proc.devRef .tc main_v11) = (bs (V (Proc.devRef .tc main_arg23)) 0 2) := by
  after_reads_simp
  exact bs1_02 _ _ _

/-- Bias (0, 3). -/
theorem h29 : StableHlo.after (hostOps0 (F := Ideal)) V (Proc.devRef .tc main_v29) = (bs (V (Proc.devRef .tc main_arg23)) 0 3) := by
  after_reads_simp
  exact bs1_03 _ _ _

/-- Bias (0, 4). -/
theorem h31 : StableHlo.after (hostOps0 (F := Ideal)) V (Proc.devRef .tc main_v31) = (bs (V (Proc.devRef .tc main_arg23)) 0 4) := by
  after_reads_simp
  exact bs1_04 _ _ _

/-- Bias (1, 0). -/
theorem h43 : StableHlo.after (hostOps0 (F := Ideal)) V (Proc.devRef .tc main_v43) = (bs (V (Proc.devRef .tc main_arg23)) 1 0) := by
  after_reads_simp
  exact bs1_10 _ _ _

/-- Bias (1, 1). -/
theorem h45 : StableHlo.after (hostOps0 (F := Ideal)) V (Proc.devRef .tc main_v45) = (bs (V (Proc.devRef .tc main_arg23)) 1 1) := by
  after_reads_simp
  exact bs1_11 _ _ _

/-- Bias (1, 2). -/
theorem h47 : StableHlo.after (hostOps0 (F := Ideal)) V (Proc.devRef .tc main_v47) = (bs (V (Proc.devRef .tc main_arg23)) 1 2) := by
  after_reads_simp
  exact bs1_12 _ _ _

/-- Bias (1, 3). -/
theorem h61 : StableHlo.after (hostOps0 (F := Ideal)) V (Proc.devRef .tc main_v61) = (bs (V (Proc.devRef .tc main_arg23)) 1 3) := by
  after_reads_simp
  exact bs1_13 _ _ _

/-- Bias (1, 4). -/
theorem h63 : StableHlo.after (hostOps0 (F := Ideal)) V (Proc.devRef .tc main_v63) = (bs (V (Proc.devRef .tc main_arg23)) 1 4) := by
  after_reads_simp
  exact bs1_14 _ _ _

/-- One weight after another. -/
theorem c12 : StableHlo.after (hostOps0 (F := Ideal)) V (Proc.devRef .tc main_v12) = compW (StableHlo.after (hostOps0 (F := Ideal)) V (Proc.devRef .tc main_v1)) (V (Proc.devRef .tc main_arg20)) := by
  after_reads_simp
  exact kW_a _ _

/-- One weight after another. -/
theorem c16 : StableHlo.after (hostOps0 (F := Ideal)) V (Proc.devRef .tc main_v16) = compW (StableHlo.after (hostOps0 (F := Ideal)) V (Proc.devRef .tc main_v3)) (StableHlo.after (hostOps0 (F := Ideal)) V (Proc.devRef .tc main_v12)) := by
  after_reads_simp
  exact kW_a _ _

/-- One weight after another. -/
theorem c20 : StableHlo.after (hostOps0 (F := Ideal)) V (Proc.devRef .tc main_v20) = compW (StableHlo.after (hostOps0 (F := Ideal)) V (Proc.devRef .tc main_v5)) (StableHlo.after (hostOps0 (F := Ideal)) V (Proc.devRef .tc main_v16)) := by
  after_reads_simp
  exact kW_a _ _

/-- One weight after another. -/
theorem c32 : StableHlo.after (hostOps0 (F := Ideal)) V (Proc.devRef .tc main_v32) = compW (StableHlo.after (hostOps0 (F := Ideal)) V (Proc.devRef .tc main_v27)) (StableHlo.after (hostOps0 (F := Ideal)) V (Proc.devRef .tc main_v25)) := by
  after_reads_simp
  exact kW_b _ _

/-- One weight after another. -/
theorem c48 : StableHlo.after (hostOps0 (F := Ideal)) V (Proc.devRef .tc main_v48) = compW (StableHlo.after (hostOps0 (F := Ideal)) V (Proc.devRef .tc main_v39)) (StableHlo.after (hostOps0 (F := Ideal)) V (Proc.devRef .tc main_v37)) := by
  after_reads_simp
  exact kW_b _ _

/-- One weight after another. -/
theorem c52 : StableHlo.after (hostOps0 (F := Ideal)) V (Proc.devRef .tc main_v52) = compW (StableHlo.after (hostOps0 (F := Ideal)) V (Proc.devRef .tc main_v41)) (StableHlo.after (hostOps0 (F := Ideal)) V (Proc.devRef .tc main_v48)) := by
  after_reads_simp
  exact kW_b _ _

/-- One weight after another. -/
theorem c64 : StableHlo.after (hostOps0 (F := Ideal)) V (Proc.devRef .tc main_v64) = compW (StableHlo.after (hostOps0 (F := Ideal)) V (Proc.devRef .tc main_v59)) (StableHlo.after (hostOps0 (F := Ideal)) V (Proc.devRef .tc main_v57)) := by
  after_reads_simp
  exact kW_b _ _

/-- One bias after another. -/
theorem c15 : StableHlo.after (hostOps0 (F := Ideal)) V (Proc.devRef .tc main_v15) = compB (StableHlo.after (hostOps0 (F := Ideal)) V (Proc.devRef .tc main_v1)) (StableHlo.after (hostOps0 (F := Ideal)) V (Proc.devRef .tc main_v7)) (V (Proc.devRef .tc main_arg21)) := by
  after_reads_simp
  exact kB _ _ _

/-- One bias after another. -/
theorem c19 : StableHlo.after (hostOps0 (F := Ideal)) V (Proc.devRef .tc main_v19) = compB (StableHlo.after (hostOps0 (F := Ideal)) V (Proc.devRef .tc main_v3)) (StableHlo.after (hostOps0 (F := Ideal)) V (Proc.devRef .tc main_v9)) (StableHlo.after (hostOps0 (F := Ideal)) V (Proc.devRef .tc main_v15)) := by
  after_reads_simp
  exact kB _ _ _

/-- One bias after another. -/
theorem c23 : StableHlo.after (hostOps0 (F := Ideal)) V (Proc.devRef .tc main_v23) = compB (StableHlo.after (hostOps0 (F := Ideal)) V (Proc.devRef .tc main_v5)) (StableHlo.after (hostOps0 (F := Ideal)) V (Proc.devRef .tc main_v11)) (StableHlo.after (hostOps0 (F := Ideal)) V (Proc.devRef .tc main_v19)) := by
  after_reads_simp
  exact kB _ _ _

/-- One bias after another. -/
theorem c35 : StableHlo.after (hostOps0 (F := Ideal)) V (Proc.devRef .tc main_v35) = compB (StableHlo.after (hostOps0 (F := Ideal)) V (Proc.devRef .tc main_v27)) (StableHlo.after (hostOps0 (F := Ideal)) V (Proc.devRef .tc main_v31)) (StableHlo.after (hostOps0 (F := Ideal)) V (Proc.devRef .tc main_v29)) := by
  after_reads_simp
  exact kB _ _ _

/-- One bias after another. -/
theorem c51 : StableHlo.after (hostOps0 (F := Ideal)) V (Proc.devRef .tc main_v51) = compB (StableHlo.after (hostOps0 (F := Ideal)) V (Proc.devRef .tc main_v39)) (StableHlo.after (hostOps0 (F := Ideal)) V (Proc.devRef .tc main_v45)) (StableHlo.after (hostOps0 (F := Ideal)) V (Proc.devRef .tc main_v43)) := by
  after_reads_simp
  exact kB _ _ _

/-- One bias after another. -/
theorem c55 : StableHlo.after (hostOps0 (F := Ideal)) V (Proc.devRef .tc main_v55) = compB (StableHlo.after (hostOps0 (F := Ideal)) V (Proc.devRef .tc main_v41)) (StableHlo.after (hostOps0 (F := Ideal)) V (Proc.devRef .tc main_v47)) (StableHlo.after (hostOps0 (F := Ideal)) V (Proc.devRef .tc main_v51)) := by
  after_reads_simp
  exact kB _ _ _

/-- One bias after another. -/
theorem c67 : StableHlo.after (hostOps0 (F := Ideal)) V (Proc.devRef .tc main_v67) = compB (StableHlo.after (hostOps0 (F := Ideal)) V (Proc.devRef .tc main_v59)) (StableHlo.after (hostOps0 (F := Ideal)) V (Proc.devRef .tc main_v63)) (StableHlo.after (hostOps0 (F := Ideal)) V (Proc.devRef .tc main_v61)) := by
  after_reads_simp
  exact kB _ _ _

/-- The composed weight, transposed. -/
theorem c75 : StableHlo.after (hostOps0 (F := Ideal)) V (Proc.devRef .tc main_v75) = tr (StableHlo.after (hostOps0 (F := Ideal)) V (Proc.devRef .tc main_v20)) := by
  after_reads_simp
  exact transpose_b _ _

/-- The words' composed weight, transposed. -/
theorem h75 : StableHlo.after (hostOps0 (F := Ideal)) V (Proc.devRef .tc main_v75) = tr (wordsW (wt (V (Proc.devRef .tc main_arg22)) 0 0) (wt (V (Proc.devRef .tc main_arg22)) 0 1) (wt (V (Proc.devRef .tc main_arg22)) 0 2) (V (Proc.devRef .tc main_arg20))) := by
  rw [c75, c20, c16, c12, h1, h3, h5]; rfl

/-- The words' composed bias. -/
theorem h23 : StableHlo.after (hostOps0 (F := Ideal)) V (Proc.devRef .tc main_v23) = wordsB (wt (V (Proc.devRef .tc main_arg22)) 0 0) (wt (V (Proc.devRef .tc main_arg22)) 0 1) (wt (V (Proc.devRef .tc main_arg22)) 0 2) (bs (V (Proc.devRef .tc main_arg23)) 0 0) (bs (V (Proc.devRef .tc main_arg23)) 0 1) (bs (V (Proc.devRef .tc main_arg23)) 0 2) (V (Proc.devRef .tc main_arg21)) := by
  rw [c23, c19, c15, h1, h3, h5, h7, h9, h11]; rfl

/-- The topics' composed weight. -/
theorem h32 : StableHlo.after (hostOps0 (F := Ideal)) V (Proc.devRef .tc main_v32) = compW (wt (V (Proc.devRef .tc main_arg22)) 0 4) (wt (V (Proc.devRef .tc main_arg22)) 0 3) := by
  rw [c32, h27, h25]

/-- The topics' composed bias. -/
theorem h35 : StableHlo.after (hostOps0 (F := Ideal)) V (Proc.devRef .tc main_v35) = compB (wt (V (Proc.devRef .tc main_arg22)) 0 4) (bs (V (Proc.devRef .tc main_arg23)) 0 4) (bs (V (Proc.devRef .tc main_arg23)) 0 3) := by
  rw [c35, h27, h31, h29]

/-- The words' second composed weight. -/
theorem h52 : StableHlo.after (hostOps0 (F := Ideal)) V (Proc.devRef .tc main_v52) = compW (wt (V (Proc.devRef .tc main_arg22)) 1 2) (compW (wt (V (Proc.devRef .tc main_arg22)) 1 1) (wt (V (Proc.devRef .tc main_arg22)) 1 0)) := by
  rw [c52, c48, h41, h39, h37]

/-- The words' second composed bias. -/
theorem h55 : StableHlo.after (hostOps0 (F := Ideal)) V (Proc.devRef .tc main_v55) = compB (wt (V (Proc.devRef .tc main_arg22)) 1 2) (bs (V (Proc.devRef .tc main_arg23)) 1 2) (compB (wt (V (Proc.devRef .tc main_arg22)) 1 1) (bs (V (Proc.devRef .tc main_arg23)) 1 1) (bs (V (Proc.devRef .tc main_arg23)) 1 0)) := by
  rw [c55, c51, h41, h47, h39, h45, h43]

/-- The topics' second composed weight. -/
theorem h64 : StableHlo.after (hostOps0 (F := Ideal)) V (Proc.devRef .tc main_v64) = compW (wt (V (Proc.devRef .tc main_arg22)) 1 4) (wt (V (Proc.devRef .tc main_arg22)) 1 3) := by
  rw [c64, h59, h57]

/-- The topics' second composed bias. -/
theorem h67 : StableHlo.after (hostOps0 (F := Ideal)) V (Proc.devRef .tc main_v67) = compB (wt (V (Proc.devRef .tc main_arg22)) 1 4) (bs (V (Proc.devRef .tc main_arg23)) 1 4) (bs (V (Proc.devRef .tc main_arg23)) 1 3) := by
  rw [c67, h59, h63, h61]

/-- The words' rows of their table. -/
theorem h74 : StableHlo.after (hostOps0 (F := Ideal)) V (Proc.devRef .tc main_v74) = ReferenceIdeal.Read.val_main_v6 (F := Ideal) (V (Proc.devRef .tc main_arg0)) (V (Proc.devRef .tc main_arg18)) := by
  after_reads_simp
  rfl

/-- The rows, padded. -/
theorem h76 : ∃ z : FVec Ideal S_ .f32, StableHlo.after (hostOps0_1 (F := Ideal)) V (Proc.devRef .tc main_v76) = pad S24576x256 ![0, 0] ![576, 0] ![0, 0] (V (Proc.devRef .tc main_v74) : FVec Ideal _ .f32) z pads_S24000x256_S24576x256_05760_000 h_S_ :=
  ⟨_, by after_reads_simp; rfl⟩

/-- The bias as a row. -/
theorem h77 : StableHlo.after (hostOps0_2 (F := Ideal)) V (Proc.devRef .tc main_v77) = asRow (V (Proc.devRef .tc main_v23)) := by
  after_reads_simp
  exact asRow_a _ _

/-! ## Before the second call -/

/-- The padding cut off. -/
theorem h79 : StableHlo.after (hostOps1 (F := Ideal)) V (Proc.devRef .tc main_v79) = extractStridedSlice S24000x512 ![0, 0] (V (Proc.devRef .tc main_v78)) slices_S24576x512_S24000x512_0_0 := by
  after_reads_simp

/-- The topics' rows of their table. -/
theorem h86 : StableHlo.after (hostOps1 (F := Ideal)) V (Proc.devRef .tc main_v86) = ReferenceIdeal.Read.val_main_v18 (F := Ideal) (V (Proc.devRef .tc main_arg1)) (V (Proc.devRef .tc main_arg19)) := by
  after_reads_simp
  rfl

/-- The weight, transposed. -/
theorem h87 : StableHlo.after (hostOps1 (F := Ideal)) V (Proc.devRef .tc main_v87) = tr (V (Proc.devRef .tc main_v32)) := by
  after_reads_simp
  exact transpose_a _ _

/-- The rows, padded. -/
theorem h88 : ∃ z : FVec Ideal S_ .f32, StableHlo.after (hostOps1_1 (F := Ideal)) V (Proc.devRef .tc main_v88) = pad S6144x512 ![0, 0] ![544, 0] ![0, 0] (V (Proc.devRef .tc main_v86) : FVec Ideal _ .f32) z pads_S5600x512_S6144x512_05440_000 h_S_ :=
  ⟨_, by after_reads_simp; rfl⟩

/-- The bias as a row. -/
theorem h89 : StableHlo.after (hostOps1_2 (F := Ideal)) V (Proc.devRef .tc main_v89) = asRow (V (Proc.devRef .tc main_v35)) := by
  after_reads_simp
  exact asRow_a _ _

/-! ## Before the third call -/

/-- The padding cut off. -/
theorem h91 : StableHlo.after (hostOps2 (F := Ideal)) V (Proc.devRef .tc main_v91) = extractStridedSlice S5600x512 ![0, 0] (V (Proc.devRef .tc main_v90)) slices_S6144x512_S5600x512_0_0 := by
  after_reads_simp

/-- The words' mean over their words. -/
theorem h112 : StableHlo.after (hostOps2 (F := Ideal)) V (Proc.devRef .tc main_v112) = meanWW (V (Proc.devRef .tc main_v79)) (V (Proc.devRef .tc main_arg3)) (V (Proc.devRef .tc main_arg4)) (V (Proc.devRef .tc main_arg13)) := by
  after_reads_simp
  rfl

/-- The topics' means, added. -/
theorem h155 : StableHlo.after (hostOps2 (F := Ideal)) V (Proc.devRef .tc main_v155) = fun j => meanWT (V (Proc.devRef .tc main_v79)) (V (Proc.devRef .tc main_arg5)) (V (Proc.devRef .tc main_arg6)) (V (Proc.devRef .tc main_arg14)) j + meanTT (extractStridedSlice S5600x512 ![0, 0] (V (Proc.devRef .tc main_v90) : FVec Ideal S6144x512 .f32) slices_S6144x512_S5600x512_0_0) (V (Proc.devRef .tc main_arg11)) (V (Proc.devRef .tc main_arg12)) (V (Proc.devRef .tc main_arg17)) j := by
  after_reads_simp
  rfl

/-- The weight, transposed. -/
theorem h156 : StableHlo.after (hostOps2 (F := Ideal)) V (Proc.devRef .tc main_v156) = tr (V (Proc.devRef .tc main_v52)) := by
  after_reads_simp
  exact transpose_a _ _

/-- The rows, padded. -/
theorem h157 : ∃ z : FVec Ideal S_ .f32, StableHlo.after (hostOps2_1 (F := Ideal)) V (Proc.devRef .tc main_v157) = pad S24576x512 ![0, 0] ![576, 0] ![0, 0] (V (Proc.devRef .tc main_v112) : FVec Ideal _ .f32) z pads_S24000x512_S24576x512_05760_000 h_S_ :=
  ⟨_, by after_reads_simp; rfl⟩

/-- The bias as a row. -/
theorem h158 : StableHlo.after (hostOps2_2 (F := Ideal)) V (Proc.devRef .tc main_v158) = asRow (V (Proc.devRef .tc main_v55)) := by
  after_reads_simp
  exact asRow_a _ _

/-! ## Before the fourth call -/

/-- The padding cut off. -/
theorem h160 : StableHlo.after (hostOps3 (F := Ideal)) V (Proc.devRef .tc main_v160) = extractStridedSlice S24000x512 ![0, 0] (V (Proc.devRef .tc main_v159)) slices_S24576x512_S24000x512_0_0 := by
  after_reads_simp

/-- The weight, transposed. -/
theorem h161 : StableHlo.after (hostOps3 (F := Ideal)) V (Proc.devRef .tc main_v161) = tr (V (Proc.devRef .tc main_v64)) := by
  after_reads_simp
  exact transpose_a _ _

/-- The rows, padded. -/
theorem h162 : ∃ z : FVec Ideal S_ .f32, StableHlo.after (hostOps3_1 (F := Ideal)) V (Proc.devRef .tc main_v162) = pad S6144x512 ![0, 0] ![544, 0] ![0, 0] (V (Proc.devRef .tc main_v155) : FVec Ideal _ .f32) z pads_S5600x512_S6144x512_05440_000 h_S_ :=
  ⟨_, by after_reads_simp; rfl⟩

/-- The bias as a row. -/
theorem h163 : StableHlo.after (hostOps3_2 (F := Ideal)) V (Proc.devRef .tc main_v163) = asRow (V (Proc.devRef .tc main_v67)) := by
  after_reads_simp
  exact asRow_a _ _

/-! ## Before the last call -/

/-- The padding cut off. -/
theorem h165 : StableHlo.after (hostOps4 (F := Ideal)) V (Proc.devRef .tc main_v165) = extractStridedSlice S5600x512 ![0, 0] (V (Proc.devRef .tc main_v164)) slices_S6144x512_S5600x512_0_0 := by
  after_reads_simp

/-- The documents' means, added. -/
theorem h208 : StableHlo.after (hostOps4 (F := Ideal)) V (Proc.devRef .tc main_v208) = fun j => meanWD (V (Proc.devRef .tc main_v160)) (V (Proc.devRef .tc main_arg7)) (V (Proc.devRef .tc main_arg8)) (V (Proc.devRef .tc main_arg15)) j + meanTD (extractStridedSlice S5600x512 ![0, 0] (V (Proc.devRef .tc main_v164) : FVec Ideal S6144x512 .f32) slices_S6144x512_S5600x512_0_0) (V (Proc.devRef .tc main_arg9)) (V (Proc.devRef .tc main_arg10)) (V (Proc.devRef .tc main_arg16)) j := by
  after_reads_simp
  rfl

/-- A recurrent weight. -/
theorem h210 : StableHlo.after (hostOps4 (F := Ideal)) V (Proc.devRef .tc main_v210) = rw3 (V (Proc.devRef .tc main_arg24)) 0 := by
  after_reads_simp
  exact rw3_0 _ _ _

/-- It, transposed. -/
theorem c211 : StableHlo.after (hostOps4 (F := Ideal)) V (Proc.devRef .tc main_v211) = tr (StableHlo.after (hostOps4 (F := Ideal)) V (Proc.devRef .tc main_v210)) := by
  after_reads_simp
  exact transpose_a _ _

/-- The two together. -/
theorem h211 : StableHlo.after (hostOps4 (F := Ideal)) V (Proc.devRef .tc main_v211) = tr (rw3 (V (Proc.devRef .tc main_arg24)) 0) := by rw [c211, h210]

/-- A recurrent weight. -/
theorem h213 : StableHlo.after (hostOps4 (F := Ideal)) V (Proc.devRef .tc main_v213) = rw3 (V (Proc.devRef .tc main_arg25)) 0 := by
  after_reads_simp
  exact rw3_0 _ _ _

/-- It, transposed. -/
theorem c214 : StableHlo.after (hostOps4 (F := Ideal)) V (Proc.devRef .tc main_v214) = tr (StableHlo.after (hostOps4 (F := Ideal)) V (Proc.devRef .tc main_v213)) := by
  after_reads_simp
  exact transpose_a _ _

/-- The two together. -/
theorem h214 : StableHlo.after (hostOps4 (F := Ideal)) V (Proc.devRef .tc main_v214) = tr (rw3 (V (Proc.devRef .tc main_arg25)) 0) := by rw [c214, h213]

/-- A recurrent bias. -/
theorem h216 : StableHlo.after (hostOps4 (F := Ideal)) V (Proc.devRef .tc main_v216) = rb2 (V (Proc.devRef .tc main_arg26)) 0 := by
  after_reads_simp
  exact rb2_0 _ _ _

/-- It, as a row. -/
theorem c217 : StableHlo.after (hostOps4 (F := Ideal)) V (Proc.devRef .tc main_v217) = asRow (StableHlo.after (hostOps4 (F := Ideal)) V (Proc.devRef .tc main_v216)) := by
  after_reads_simp
  exact asRow_a _ _

/-- The two together. -/
theorem h217 : StableHlo.after (hostOps4 (F := Ideal)) V (Proc.devRef .tc main_v217) = asRow (rb2 (V (Proc.devRef .tc main_arg26)) 0) := by rw [c217, h216]

/-- A recurrent bias. -/
theorem h219 : StableHlo.after (hostOps4 (F := Ideal)) V (Proc.devRef .tc main_v219) = rb2 (V (Proc.devRef .tc main_arg27)) 0 := by
  after_reads_simp
  exact rb2_0 _ _ _

/-- It, as a row. -/
theorem c220 : StableHlo.after (hostOps4 (F := Ideal)) V (Proc.devRef .tc main_v220) = asRow (StableHlo.after (hostOps4 (F := Ideal)) V (Proc.devRef .tc main_v219)) := by
  after_reads_simp
  exact asRow_a _ _

/-- The two together. -/
theorem h220 : StableHlo.after (hostOps4 (F := Ideal)) V (Proc.devRef .tc main_v220) = asRow (rb2 (V (Proc.devRef .tc main_arg27)) 0) := by rw [c220, h219]

/-- A recurrent weight. -/
theorem h222 : StableHlo.after (hostOps4 (F := Ideal)) V (Proc.devRef .tc main_v222) = rw3 (V (Proc.devRef .tc main_arg24)) 1 := by
  after_reads_simp
  exact rw3_1 _ _ _

/-- It, transposed. -/
theorem c223 : StableHlo.after (hostOps4 (F := Ideal)) V (Proc.devRef .tc main_v223) = tr (StableHlo.after (hostOps4 (F := Ideal)) V (Proc.devRef .tc main_v222)) := by
  after_reads_simp
  exact transpose_a _ _

/-- The two together. -/
theorem h223 : StableHlo.after (hostOps4 (F := Ideal)) V (Proc.devRef .tc main_v223) = tr (rw3 (V (Proc.devRef .tc main_arg24)) 1) := by rw [c223, h222]

/-- A recurrent weight. -/
theorem h225 : StableHlo.after (hostOps4 (F := Ideal)) V (Proc.devRef .tc main_v225) = rw3 (V (Proc.devRef .tc main_arg25)) 1 := by
  after_reads_simp
  exact rw3_1 _ _ _

/-- It, transposed. -/
theorem c226 : StableHlo.after (hostOps4 (F := Ideal)) V (Proc.devRef .tc main_v226) = tr (StableHlo.after (hostOps4 (F := Ideal)) V (Proc.devRef .tc main_v225)) := by
  after_reads_simp
  exact transpose_a _ _

/-- The two together. -/
theorem h226 : StableHlo.after (hostOps4 (F := Ideal)) V (Proc.devRef .tc main_v226) = tr (rw3 (V (Proc.devRef .tc main_arg25)) 1) := by rw [c226, h225]

/-- A recurrent bias. -/
theorem h228 : StableHlo.after (hostOps4 (F := Ideal)) V (Proc.devRef .tc main_v228) = rb2 (V (Proc.devRef .tc main_arg26)) 1 := by
  after_reads_simp
  exact rb2_1 _ _ _

/-- It, as a row. -/
theorem c229 : StableHlo.after (hostOps4 (F := Ideal)) V (Proc.devRef .tc main_v229) = asRow (StableHlo.after (hostOps4 (F := Ideal)) V (Proc.devRef .tc main_v228)) := by
  after_reads_simp
  exact asRow_a _ _

/-- The two together. -/
theorem h229 : StableHlo.after (hostOps4 (F := Ideal)) V (Proc.devRef .tc main_v229) = asRow (rb2 (V (Proc.devRef .tc main_arg26)) 1) := by rw [c229, h228]

/-- A recurrent bias. -/
theorem h231 : StableHlo.after (hostOps4 (F := Ideal)) V (Proc.devRef .tc main_v231) = rb2 (V (Proc.devRef .tc main_arg27)) 1 := by
  after_reads_simp
  exact rb2_1 _ _ _

/-- It, as a row. -/
theorem c232 : StableHlo.after (hostOps4 (F := Ideal)) V (Proc.devRef .tc main_v232) = asRow (StableHlo.after (hostOps4 (F := Ideal)) V (Proc.devRef .tc main_v231)) := by
  after_reads_simp
  exact asRow_a _ _

/-- The two together. -/
theorem h232 : StableHlo.after (hostOps4 (F := Ideal)) V (Proc.devRef .tc main_v232) = asRow (rb2 (V (Proc.devRef .tc main_arg27)) 1) := by rw [c232, h231]

/-- The scores' weight, transposed. -/
theorem h233 : StableHlo.after (hostOps4 (F := Ideal)) V (Proc.devRef .tc main_v233) = tr (V (Proc.devRef .tc main_arg28)) := by
  after_reads_simp
  exact transpose_c _ _

/-- The scores' bias. -/
theorem h234 : StableHlo.after (hostOps4 (F := Ideal)) V (Proc.devRef .tc main_v234) = asRow (V (Proc.devRef .tc main_arg29)) := by
  after_reads_simp
  exact asRow_b _ _

/-- The labels as a row. -/
theorem h235 : StableHlo.after (hostOps4 (F := Ideal)) V (Proc.devRef .tc main_v235) = asRow (V (Proc.devRef .tc main_arg30)) := by
  after_reads_simp
  exact asRow_c _ _

/-! ## After the last call -/

/-- The loss. -/
theorem h237 : StableHlo.after (hostOps5 (F := Ideal)) V (Proc.devRef .tc main_v237) = shapeCast S_ (V (Proc.devRef .tc main_v236_0)) shapeCasts_S1x1_S_ := by
  after_reads_simp
  rfl

/-- The logistic values. -/
theorem h238 : StableHlo.after (hostOps5 (F := Ideal)) V (Proc.devRef .tc main_v238) = shapeCast S16 (V (Proc.devRef .tc main_v236_1)) shapeCasts_S16x1_S16 := by
  after_reads_simp
  rfl

end Cert.Net.Host
-- ==== Proof.Regions.lean ====
/- The four calls of the linear kernel: what each leaves in its result array, as one linear layer of the whole input array. -/
module

public import proofs.«01_k».proof.Proof.Ops
public import proofs.«01_k».proof.Proof.Gen.KernelIdeal.Frame
public import Idealize.ShloMosaic.Lib.Pipeline.Value

@[expose] public section

noncomputable section

open Idealize.ShloMosaic Idealize.ShloMosaic.TcCoe Idealize.SL.Sem
open Idealize.ShloMosaic.Pipeline (Dat)
open Cert.KernelIdeal Cert.KernelIdeal.Gen
open scoped BigOperators

namespace Cert.Net.Regions

/-- The starting corner of a block the body reads or writes whole. -/
theorem hz : (![0, 0] : Fin 2 → Nat) = fun _ => 0 := funext fun a => by fin_cases a <;> rfl

/-- A linear layer of a block of rows is that block of the linear layer. -/
theorem linT_block {m m' k n : ℕ} {A : Mat m' k} {w : Mat k n} {b : Mat 1 n} {x : Mat m k} {w' : Mat k n} {b' : Mat 1 n}
    (i : (M2 m n).Idx) (i' : (M2 m' n).Idx) (hx : ∀ q, x (ix2 (i 0) q) = A (ix2 (i' 0) q)) (hw : w' = w) (hb : b' = b)
    (hi : i 1 = i' 1) : linT x w' b' i = linT A w b i' := by
  unfold linT; rw [hw, hb, hi]; simp only [hx]

variable (V : (c : Dev nD) → (b : Ref sig .tc) → Buf (Elt Ideal) ((c : Thread nD τ).loc b))

/-! ## Call 0 -/

/-- The body's linear layer on the blocks it loads. -/
theorem pay0 (x : FVec Ideal (M2 2048 256) .f32) (w : FVec Ideal (M2 256 512) .f32) (b : FVec Ideal (M2 1 512) .f32) :
    k0_pay1 (F := Ideal) x w b = linT x w b := kerLin_a x w b _ _ _ _

/-- What the call computes: one linear layer of the whole array. -/
abbrev res0 (c : Dev nD) : Mat 24576 512 := linT (V c main_v76) (V c main_v75) (V c main_v77)

/-- Which rows of its array each window's block holds at point `t`. -/
theorem at0 (t : Fin cfg0.N) :
    (win0_0.index t 0 * win0_0.size 0 = t.val * 2048 ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = t.val * 2048 ∧ win0_3.xsize (grid0.coords t) 0 = 2048)
    ∧ (win0_3.index t 1 * win0_3.size 1 = 0 ∧ win0_3.xsize (grid0.coords t) 1 = 512) := by
  rcases fin_N0 t with rfl | rfl | rfl | rfl | rfl | rfl | rfl | rfl | rfl | rfl | rfl | rfl <;> decide +kernel

/-- The rows' block. -/
theorem x0 (c : Dev nD) (t : Fin cfg0.N) (i : Fin 2048) (q : Fin 256) (i' : Fin 24576) (h : i'.val = t.val * 2048 + i.val) :
    iblk0 (F := Ideal) V c 0 t (ix2 i q) = V c main_v76 (ix2 i' q) := by
  show V c main_v76 (((cfg0.win 0).blk t).view.emb (ix2 i q)) = _
  congr 1
  funext a
  apply Fin.ext
  match a with
  | ⟨0, _⟩ => show win0_0.index t 0 * win0_0.size 0 + 1 * i.val = i'.val; rw [(at0 t).1.1]; omega
  | ⟨1, _⟩ => show win0_0.index t 1 * win0_0.size 1 + 1 * q.val = q.val; rw [(at0 t).1.2]; omega

/-- The weight's block is the whole weight. -/
theorem w0 (c : Dev nD) (t : Fin cfg0.N) : iblk0 (F := Ideal) V c 1 t = V c main_v75 := by
  funext i
  show V c main_v75 (((cfg0.win 1).blk t).view.emb i) = _
  congr 1
  funext a
  apply Fin.ext
  match a with
  | ⟨0, _⟩ => show win0_1.index t 0 * win0_1.size 0 + 1 * (i 0).val = (i 0).val; rw [(at0 t).2.1.1]; omega
  | ⟨1, _⟩ => show win0_1.index t 1 * win0_1.size 1 + 1 * (i 1).val = (i 1).val; rw [(at0 t).2.1.2]; omega

/-- The bias's block is the whole bias. -/
theorem b0 (c : Dev nD) (t : Fin cfg0.N) : iblk0 (F := Ideal) V c 2 t = V c main_v77 := by
  funext i
  show V c main_v77 (((cfg0.win 2).blk t).view.emb i) = _
  congr 1
  funext a
  apply Fin.ext
  match a with
  | ⟨0, _⟩ => show win0_2.index t 0 * win0_2.size 0 + 1 * (i 0).val = (i 0).val; rw [(at0 t).2.2.1.1]; omega
  | ⟨1, _⟩ => show win0_2.index t 1 * win0_2.size 1 + 1 * (i 1).val = (i 1).val; rw [(at0 t).2.2.1.2]; omega

/-- What point `t` writes back is its block of the result. -/
theorem flushed0 (c : Dev nD) (t : Fin cfg0.N) :
    (dat0 (F := Ideal) V c).flushed 3 t = (win0_3.blk t).view.read (Elt Ideal) (res0 V c) := by
  show (cfg0.win 3).cut (grid0.coords t) ((dat0 V c).after 3 t) = _
  rw [after0_3]
  unfold out0_3
  rw [View.canon_unit_zero hz, View.ld_unit_zero hz, View.ld_unit_zero hz, View.ld_unit_zero hz, pay0]
  funext i
  show linT (iblk0 (F := Ideal) V c 0 t) (iblk0 V c 1 t) (iblk0 V c 2 t) ((cfg0.win 3).xinj (grid0.coords t) i) = res0 V c ((win0_3.blk t).view.emb i)
  refine linT_block _ _ (fun q => (x0 V c t _ q _ ?_)) (w0 V c t) (b0 V c t) (Fin.ext ?_)
  · show win0_3.index t 0 * win0_3.size 0 + 1 * (i 0).val = t.val * 2048 + (i 0).val
    rw [(at0 t).2.2.2.1.1]; omega
  · show (i 1).val = win0_3.index t 1 * win0_3.size 1 + 1 * (i 1).val
    rw [(at0 t).2.2.2.2.1]; omega

/-- The rows point `t` writes. -/
theorem mem0 (t : Fin cfg0.N) (i : (M2 24576 512).Idx) :
    i ∈ ((cfg0.win 3).blk t).view.set ↔ t.val * 2048 ≤ (i 0 : Nat) ∧ (i 0 : Nat) < t.val * 2048 + 2048 := by
  show i ∈ ((View.whole main_v78).slice (win0_3.rect t)).set ↔ _
  rw [View.set_slice_whole, Rect.mem_set_unit]
  have h1 : (i 1 : Nat) < 512 := (i 1).isLt
  obtain ⟨-, -, -, e0, e1⟩ := at0 t
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e0.1, e0.2] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0.1, e0.2]; exact h
    | ⟨1, _⟩ => show win0_3.index t 1 * win0_3.size 1 ≤ (i 1 : Nat) ∧ (i 1 : Nat) < win0_3.index t 1 * win0_3.size 1 + win0_3.xsize (grid0.coords t) 1
                rw [e1.1, e1.2]; omega

/-- Every row is written at some point. -/
theorem cover0 (i : (M2 24576 512).Idx) : ∃ t : Fin cfg0.N, (cfg0.win 3).flush t = true ∧ i ∈ ((cfg0.win 3).blk t).view.set := by
  have h0 : (i 0 : Nat) < 24576 := (i 0).isLt
  have hN : cfg0.N = 12 := N_0
  have ht : (i 0 : Nat) / 2048 < cfg0.N := by omega
  refine ⟨⟨(i 0 : Nat) / 2048, ht⟩, flush0_3 _, ?_⟩
  rw [mem0]
  dsimp only
  omega

/-- What the call leaves in its result array. -/
theorem final0 (c : Dev nD) : (dat0 (F := Ideal) V c).arrAt 3 cfg0.N = res0 V c :=
  (dat0 V c).arrAt_eq_of_cover 3 (res0 V c) (fun t _ => flushed0 V c t) cover0

/-! ## Call 1 -/

/-- The body's linear layer on the blocks it loads. -/
theorem pay1 (x : FVec Ideal (M2 2048 512) .f32) (w : FVec Ideal (M2 512 512) .f32) (b : FVec Ideal (M2 1 512) .f32) :
    k1_pay1 (F := Ideal) x w b = linT x w b := kerLin_b x w b _ _ _ _

/-- What the call computes: one linear layer of the whole array. -/
abbrev res1 (c : Dev nD) : Mat 6144 512 := linT (V c main_v88) (V c main_v87) (V c main_v89)

/-- Which rows of its array each window's block holds at point `t`. -/
theorem at1 (t : Fin cfg1.N) :
    (win1_0.index t 0 * win1_0.size 0 = t.val * 2048 ∧ win1_0.index t 1 * win1_0.size 1 = 0)
    ∧ (win1_1.index t 0 * win1_1.size 0 = 0 ∧ win1_1.index t 1 * win1_1.size 1 = 0)
    ∧ (win1_2.index t 0 * win1_2.size 0 = 0 ∧ win1_2.index t 1 * win1_2.size 1 = 0)
    ∧ (win1_3.index t 0 * win1_3.size 0 = t.val * 2048 ∧ win1_3.xsize (grid1.coords t) 0 = 2048)
    ∧ (win1_3.index t 1 * win1_3.size 1 = 0 ∧ win1_3.xsize (grid1.coords t) 1 = 512) := by
  rcases fin_N1 t with rfl | rfl | rfl <;> decide +kernel

/-- The rows' block. -/
theorem x1 (c : Dev nD) (t : Fin cfg1.N) (i : Fin 2048) (q : Fin 512) (i' : Fin 6144) (h : i'.val = t.val * 2048 + i.val) :
    iblk1 (F := Ideal) V c 0 t (ix2 i q) = V c main_v88 (ix2 i' q) := by
  show V c main_v88 (((cfg1.win 0).blk t).view.emb (ix2 i q)) = _
  congr 1
  funext a
  apply Fin.ext
  match a with
  | ⟨0, _⟩ => show win1_0.index t 0 * win1_0.size 0 + 1 * i.val = i'.val; rw [(at1 t).1.1]; omega
  | ⟨1, _⟩ => show win1_0.index t 1 * win1_0.size 1 + 1 * q.val = q.val; rw [(at1 t).1.2]; omega

/-- The weight's block is the whole weight. -/
theorem w1 (c : Dev nD) (t : Fin cfg1.N) : iblk1 (F := Ideal) V c 1 t = V c main_v87 := by
  funext i
  show V c main_v87 (((cfg1.win 1).blk t).view.emb i) = _
  congr 1
  funext a
  apply Fin.ext
  match a with
  | ⟨0, _⟩ => show win1_1.index t 0 * win1_1.size 0 + 1 * (i 0).val = (i 0).val; rw [(at1 t).2.1.1]; omega
  | ⟨1, _⟩ => show win1_1.index t 1 * win1_1.size 1 + 1 * (i 1).val = (i 1).val; rw [(at1 t).2.1.2]; omega

/-- The bias's block is the whole bias. -/
theorem b1 (c : Dev nD) (t : Fin cfg1.N) : iblk1 (F := Ideal) V c 2 t = V c main_v89 := by
  funext i
  show V c main_v89 (((cfg1.win 2).blk t).view.emb i) = _
  congr 1
  funext a
  apply Fin.ext
  match a with
  | ⟨0, _⟩ => show win1_2.index t 0 * win1_2.size 0 + 1 * (i 0).val = (i 0).val; rw [(at1 t).2.2.1.1]; omega
  | ⟨1, _⟩ => show win1_2.index t 1 * win1_2.size 1 + 1 * (i 1).val = (i 1).val; rw [(at1 t).2.2.1.2]; omega

/-- What point `t` writes back is its block of the result. -/
theorem flushed1 (c : Dev nD) (t : Fin cfg1.N) :
    (dat1 (F := Ideal) V c).flushed 3 t = (win1_3.blk t).view.read (Elt Ideal) (res1 V c) := by
  show (cfg1.win 3).cut (grid1.coords t) ((dat1 V c).after 3 t) = _
  rw [after1_3]
  unfold out1_3
  rw [View.canon_unit_zero hz, View.ld_unit_zero hz, View.ld_unit_zero hz, View.ld_unit_zero hz, pay1]
  funext i
  show linT (iblk1 (F := Ideal) V c 0 t) (iblk1 V c 1 t) (iblk1 V c 2 t) ((cfg1.win 3).xinj (grid1.coords t) i) = res1 V c ((win1_3.blk t).view.emb i)
  refine linT_block _ _ (fun q => (x1 V c t _ q _ ?_)) (w1 V c t) (b1 V c t) (Fin.ext ?_)
  · show win1_3.index t 0 * win1_3.size 0 + 1 * (i 0).val = t.val * 2048 + (i 0).val
    rw [(at1 t).2.2.2.1.1]; omega
  · show (i 1).val = win1_3.index t 1 * win1_3.size 1 + 1 * (i 1).val
    rw [(at1 t).2.2.2.2.1]; omega

/-- The rows point `t` writes. -/
theorem mem1 (t : Fin cfg1.N) (i : (M2 6144 512).Idx) :
    i ∈ ((cfg1.win 3).blk t).view.set ↔ t.val * 2048 ≤ (i 0 : Nat) ∧ (i 0 : Nat) < t.val * 2048 + 2048 := by
  show i ∈ ((View.whole main_v90).slice (win1_3.rect t)).set ↔ _
  rw [View.set_slice_whole, Rect.mem_set_unit]
  have h1 : (i 1 : Nat) < 512 := (i 1).isLt
  obtain ⟨-, -, -, e0, e1⟩ := at1 t
  refine ⟨fun h => ?_, fun h a => ?_⟩
  · have : win1_3.index t 0 * win1_3.size 0 ≤ (i 0 : Nat) ∧ (i 0 : Nat) < win1_3.index t 0 * win1_3.size 0 + win1_3.xsize (grid1.coords t) 0 := h 0
    rw [e0.1, e0.2] at this; exact this
  · match a with
    | ⟨0, _⟩ => show win1_3.index t 0 * win1_3.size 0 ≤ (i 0 : Nat) ∧ (i 0 : Nat) < win1_3.index t 0 * win1_3.size 0 + win1_3.xsize (grid1.coords t) 0
                rw [e0.1, e0.2]; exact h
    | ⟨1, _⟩ => show win1_3.index t 1 * win1_3.size 1 ≤ (i 1 : Nat) ∧ (i 1 : Nat) < win1_3.index t 1 * win1_3.size 1 + win1_3.xsize (grid1.coords t) 1
                rw [e1.1, e1.2]; omega

/-- Every row is written at some point. -/
theorem cover1 (i : (M2 6144 512).Idx) : ∃ t : Fin cfg1.N, (cfg1.win 3).flush t = true ∧ i ∈ ((cfg1.win 3).blk t).view.set := by
  have h0 : (i 0 : Nat) < 6144 := (i 0).isLt
  have hN : cfg1.N = 3 := N_1
  have ht : (i 0 : Nat) / 2048 < cfg1.N := by omega
  refine ⟨⟨(i 0 : Nat) / 2048, ht⟩, flush1_3 _, ?_⟩
  rw [mem1]
  dsimp only
  omega

/-- What the call leaves in its result array. -/
theorem final1 (c : Dev nD) : (dat1 (F := Ideal) V c).arrAt 3 cfg1.N = res1 V c :=
  (dat1 V c).arrAt_eq_of_cover 3 (res1 V c) (fun t _ => flushed1 V c t) cover1

/-! ## Call 2 -/

/-- The body's linear layer on the blocks it loads. -/
theorem pay2 (x : FVec Ideal (M2 2048 512) .f32) (w : FVec Ideal (M2 512 512) .f32) (b : FVec Ideal (M2 1 512) .f32) :
    k2_pay1 (F := Ideal) x w b = linT (relu x) w b := kerLin_c x w b _ _ _ _

/-- What the call computes: one linear layer of the whole array, rectified first. -/
abbrev res2 (c : Dev nD) : Mat 24576 512 := linT (relu (V c main_v157)) (V c main_v156) (V c main_v158)

/-- Which rows of its array each window's block holds at point `t`. -/
theorem at2 (t : Fin cfg2.N) :
    (win2_0.index t 0 * win2_0.size 0 = t.val * 2048 ∧ win2_0.index t 1 * win2_0.size 1 = 0)
    ∧ (win2_1.index t 0 * win2_1.size 0 = 0 ∧ win2_1.index t 1 * win2_1.size 1 = 0)
    ∧ (win2_2.index t 0 * win2_2.size 0 = 0 ∧ win2_2.index t 1 * win2_2.size 1 = 0)
    ∧ (win2_3.index t 0 * win2_3.size 0 = t.val * 2048 ∧ win2_3.xsize (grid2.coords t) 0 = 2048)
    ∧ (win2_3.index t 1 * win2_3.size 1 = 0 ∧ win2_3.xsize (grid2.coords t) 1 = 512) := by
  rcases fin_N2 t with rfl | rfl | rfl | rfl | rfl | rfl | rfl | rfl | rfl | rfl | rfl | rfl <;> decide +kernel

/-- The rows' block. -/
theorem x2 (c : Dev nD) (t : Fin cfg2.N) (i : Fin 2048) (q : Fin 512) (i' : Fin 24576) (h : i'.val = t.val * 2048 + i.val) :
    iblk2 (F := Ideal) V c 0 t (ix2 i q) = V c main_v157 (ix2 i' q) := by
  show V c main_v157 (((cfg2.win 0).blk t).view.emb (ix2 i q)) = _
  congr 1
  funext a
  apply Fin.ext
  match a with
  | ⟨0, _⟩ => show win2_0.index t 0 * win2_0.size 0 + 1 * i.val = i'.val; rw [(at2 t).1.1]; omega
  | ⟨1, _⟩ => show win2_0.index t 1 * win2_0.size 1 + 1 * q.val = q.val; rw [(at2 t).1.2]; omega

/-- The weight's block is the whole weight. -/
theorem w2 (c : Dev nD) (t : Fin cfg2.N) : iblk2 (F := Ideal) V c 1 t = V c main_v156 := by
  funext i
  show V c main_v156 (((cfg2.win 1).blk t).view.emb i) = _
  congr 1
  funext a
  apply Fin.ext
  match a with
  | ⟨0, _⟩ => show win2_1.index t 0 * win2_1.size 0 + 1 * (i 0).val = (i 0).val; rw [(at2 t).2.1.1]; omega
  | ⟨1, _⟩ => show win2_1.index t 1 * win2_1.size 1 + 1 * (i 1).val = (i 1).val; rw [(at2 t).2.1.2]; omega

/-- The bias's block is the whole bias. -/
theorem b2 (c : Dev nD) (t : Fin cfg2.N) : iblk2 (F := Ideal) V c 2 t = V c main_v158 := by
  funext i
  show V c main_v158 (((cfg2.win 2).blk t).view.emb i) = _
  congr 1
  funext a
  apply Fin.ext
  match a with
  | ⟨0, _⟩ => show win2_2.index t 0 * win2_2.size 0 + 1 * (i 0).val = (i 0).val; rw [(at2 t).2.2.1.1]; omega
  | ⟨1, _⟩ => show win2_2.index t 1 * win2_2.size 1 + 1 * (i 1).val = (i 1).val; rw [(at2 t).2.2.1.2]; omega

/-- What point `t` writes back is its block of the result. -/
theorem flushed2 (c : Dev nD) (t : Fin cfg2.N) :
    (dat2 (F := Ideal) V c).flushed 3 t = (win2_3.blk t).view.read (Elt Ideal) (res2 V c) := by
  show (cfg2.win 3).cut (grid2.coords t) ((dat2 V c).after 3 t) = _
  rw [after2_3]
  unfold out2_3
  rw [View.canon_unit_zero hz, View.ld_unit_zero hz, View.ld_unit_zero hz, View.ld_unit_zero hz, pay2]
  funext i
  show linT (relu (iblk2 (F := Ideal) V c 0 t)) (iblk2 V c 1 t) (iblk2 V c 2 t) ((cfg2.win 3).xinj (grid2.coords t) i) = res2 V c ((win2_3.blk t).view.emb i)
  refine linT_block _ _ (fun q => congrArg (max · 0) (x2 V c t _ q _ ?_)) (w2 V c t) (b2 V c t) (Fin.ext ?_)
  · show win2_3.index t 0 * win2_3.size 0 + 1 * (i 0).val = t.val * 2048 + (i 0).val
    rw [(at2 t).2.2.2.1.1]; omega
  · show (i 1).val = win2_3.index t 1 * win2_3.size 1 + 1 * (i 1).val
    rw [(at2 t).2.2.2.2.1]; omega

/-- The rows point `t` writes. -/
theorem mem2 (t : Fin cfg2.N) (i : (M2 24576 512).Idx) :
    i ∈ ((cfg2.win 3).blk t).view.set ↔ t.val * 2048 ≤ (i 0 : Nat) ∧ (i 0 : Nat) < t.val * 2048 + 2048 := by
  show i ∈ ((View.whole main_v159).slice (win2_3.rect t)).set ↔ _
  rw [View.set_slice_whole, Rect.mem_set_unit]
  have h1 : (i 1 : Nat) < 512 := (i 1).isLt
  obtain ⟨-, -, -, e0, e1⟩ := at2 t
  refine ⟨fun h => ?_, fun h a => ?_⟩
  · have : win2_3.index t 0 * win2_3.size 0 ≤ (i 0 : Nat) ∧ (i 0 : Nat) < win2_3.index t 0 * win2_3.size 0 + win2_3.xsize (grid2.coords t) 0 := h 0
    rw [e0.1, e0.2] at this; exact this
  · match a with
    | ⟨0, _⟩ => show win2_3.index t 0 * win2_3.size 0 ≤ (i 0 : Nat) ∧ (i 0 : Nat) < win2_3.index t 0 * win2_3.size 0 + win2_3.xsize (grid2.coords t) 0
                rw [e0.1, e0.2]; exact h
    | ⟨1, _⟩ => show win2_3.index t 1 * win2_3.size 1 ≤ (i 1 : Nat) ∧ (i 1 : Nat) < win2_3.index t 1 * win2_3.size 1 + win2_3.xsize (grid2.coords t) 1
                rw [e1.1, e1.2]; omega

/-- Every row is written at some point. -/
theorem cover2 (i : (M2 24576 512).Idx) : ∃ t : Fin cfg2.N, (cfg2.win 3).flush t = true ∧ i ∈ ((cfg2.win 3).blk t).view.set := by
  have h0 : (i 0 : Nat) < 24576 := (i 0).isLt
  have hN : cfg2.N = 12 := N_2
  have ht : (i 0 : Nat) / 2048 < cfg2.N := by omega
  refine ⟨⟨(i 0 : Nat) / 2048, ht⟩, flush2_3 _, ?_⟩
  rw [mem2]
  dsimp only
  omega

/-- What the call leaves in its result array. -/
theorem final2 (c : Dev nD) : (dat2 (F := Ideal) V c).arrAt 3 cfg2.N = res2 V c :=
  (dat2 V c).arrAt_eq_of_cover 3 (res2 V c) (fun t _ => flushed2 V c t) cover2

/-! ## Call 3 -/

/-- The body's linear layer on the blocks it loads. -/
theorem pay3 (x : FVec Ideal (M2 2048 512) .f32) (w : FVec Ideal (M2 512 512) .f32) (b : FVec Ideal (M2 1 512) .f32) :
    k3_pay1 (F := Ideal) x w b = linT (relu x) w b := kerLin_c x w b _ _ _ _

/-- What the call computes: one linear layer of the whole array, rectified first. -/
abbrev res3 (c : Dev nD) : Mat 6144 512 := linT (relu (V c main_v162)) (V c main_v161) (V c main_v163)

/-- Which rows of its array each window's block holds at point `t`. -/
theorem at3 (t : Fin cfg3.N) :
    (win3_0.index t 0 * win3_0.size 0 = t.val * 2048 ∧ win3_0.index t 1 * win3_0.size 1 = 0)
    ∧ (win3_1.index t 0 * win3_1.size 0 = 0 ∧ win3_1.index t 1 * win3_1.size 1 = 0)
    ∧ (win3_2.index t 0 * win3_2.size 0 = 0 ∧ win3_2.index t 1 * win3_2.size 1 = 0)
    ∧ (win3_3.index t 0 * win3_3.size 0 = t.val * 2048 ∧ win3_3.xsize (grid3.coords t) 0 = 2048)
    ∧ (win3_3.index t 1 * win3_3.size 1 = 0 ∧ win3_3.xsize (grid3.coords t) 1 = 512) := by
  rcases fin_N3 t with rfl | rfl | rfl <;> decide +kernel

/-- The rows' block. -/
theorem x3 (c : Dev nD) (t : Fin cfg3.N) (i : Fin 2048) (q : Fin 512) (i' : Fin 6144) (h : i'.val = t.val * 2048 + i.val) :
    iblk3 (F := Ideal) V c 0 t (ix2 i q) = V c main_v162 (ix2 i' q) := by
  show V c main_v162 (((cfg3.win 0).blk t).view.emb (ix2 i q)) = _
  congr 1
  funext a
  apply Fin.ext
  match a with
  | ⟨0, _⟩ => show win3_0.index t 0 * win3_0.size 0 + 1 * i.val = i'.val; rw [(at3 t).1.1]; omega
  | ⟨1, _⟩ => show win3_0.index t 1 * win3_0.size 1 + 1 * q.val = q.val; rw [(at3 t).1.2]; omega

/-- The weight's block is the whole weight. -/
theorem w3 (c : Dev nD) (t : Fin cfg3.N) : iblk3 (F := Ideal) V c 1 t = V c main_v161 := by
  funext i
  show V c main_v161 (((cfg3.win 1).blk t).view.emb i) = _
  congr 1
  funext a
  apply Fin.ext
  match a with
  | ⟨0, _⟩ => show win3_1.index t 0 * win3_1.size 0 + 1 * (i 0).val = (i 0).val; rw [(at3 t).2.1.1]; omega
  | ⟨1, _⟩ => show win3_1.index t 1 * win3_1.size 1 + 1 * (i 1).val = (i 1).val; rw [(at3 t).2.1.2]; omega

/-- The bias's block is the whole bias. -/
theorem b3 (c : Dev nD) (t : Fin cfg3.N) : iblk3 (F := Ideal) V c 2 t = V c main_v163 := by
  funext i
  show V c main_v163 (((cfg3.win 2).blk t).view.emb i) = _
  congr 1
  funext a
  apply Fin.ext
  match a with
  | ⟨0, _⟩ => show win3_2.index t 0 * win3_2.size 0 + 1 * (i 0).val = (i 0).val; rw [(at3 t).2.2.1.1]; omega
  | ⟨1, _⟩ => show win3_2.index t 1 * win3_2.size 1 + 1 * (i 1).val = (i 1).val; rw [(at3 t).2.2.1.2]; omega

/-- What point `t` writes back is its block of the result. -/
theorem flushed3 (c : Dev nD) (t : Fin cfg3.N) :
    (dat3 (F := Ideal) V c).flushed 3 t = (win3_3.blk t).view.read (Elt Ideal) (res3 V c) := by
  show (cfg3.win 3).cut (grid3.coords t) ((dat3 V c).after 3 t) = _
  rw [after3_3]
  unfold out3_3
  rw [View.canon_unit_zero hz, View.ld_unit_zero hz, View.ld_unit_zero hz, View.ld_unit_zero hz, pay3]
  funext i
  show linT (relu (iblk3 (F := Ideal) V c 0 t)) (iblk3 V c 1 t) (iblk3 V c 2 t) ((cfg3.win 3).xinj (grid3.coords t) i) = res3 V c ((win3_3.blk t).view.emb i)
  refine linT_block _ _ (fun q => congrArg (max · 0) (x3 V c t _ q _ ?_)) (w3 V c t) (b3 V c t) (Fin.ext ?_)
  · show win3_3.index t 0 * win3_3.size 0 + 1 * (i 0).val = t.val * 2048 + (i 0).val
    rw [(at3 t).2.2.2.1.1]; omega
  · show (i 1).val = win3_3.index t 1 * win3_3.size 1 + 1 * (i 1).val
    rw [(at3 t).2.2.2.2.1]; omega

/-- The rows point `t` writes. -/
theorem mem3 (t : Fin cfg3.N) (i : (M2 6144 512).Idx) :
    i ∈ ((cfg3.win 3).blk t).view.set ↔ t.val * 2048 ≤ (i 0 : Nat) ∧ (i 0 : Nat) < t.val * 2048 + 2048 := by
  show i ∈ ((View.whole main_v164).slice (win3_3.rect t)).set ↔ _
  rw [View.set_slice_whole, Rect.mem_set_unit]
  have h1 : (i 1 : Nat) < 512 := (i 1).isLt
  obtain ⟨-, -, -, e0, e1⟩ := at3 t
  refine ⟨fun h => ?_, fun h a => ?_⟩
  · have : win3_3.index t 0 * win3_3.size 0 ≤ (i 0 : Nat) ∧ (i 0 : Nat) < win3_3.index t 0 * win3_3.size 0 + win3_3.xsize (grid3.coords t) 0 := h 0
    rw [e0.1, e0.2] at this; exact this
  · match a with
    | ⟨0, _⟩ => show win3_3.index t 0 * win3_3.size 0 ≤ (i 0 : Nat) ∧ (i 0 : Nat) < win3_3.index t 0 * win3_3.size 0 + win3_3.xsize (grid3.coords t) 0
                rw [e0.1, e0.2]; exact h
    | ⟨1, _⟩ => show win3_3.index t 1 * win3_3.size 1 ≤ (i 1 : Nat) ∧ (i 1 : Nat) < win3_3.index t 1 * win3_3.size 1 + win3_3.xsize (grid3.coords t) 1
                rw [e1.1, e1.2]; omega

/-- Every row is written at some point. -/
theorem cover3 (i : (M2 6144 512).Idx) : ∃ t : Fin cfg3.N, (cfg3.win 3).flush t = true ∧ i ∈ ((cfg3.win 3).blk t).view.set := by
  have h0 : (i 0 : Nat) < 6144 := (i 0).isLt
  have hN : cfg3.N = 3 := N_3
  have ht : (i 0 : Nat) / 2048 < cfg3.N := by omega
  refine ⟨⟨(i 0 : Nat) / 2048, ht⟩, flush3_3 _, ?_⟩
  rw [mem3]
  dsimp only
  omega

/-- What the call leaves in its result array. -/
theorem final3 (c : Dev nD) : (dat3 (F := Ideal) V c).arrAt 3 cfg3.N = res3 V c :=
  (dat3 V c).arrAt_eq_of_cover 3 (res3 V c) (fun t _ => flushed3 V c t) cover3

end Cert.Net.Regions
-- ==== Proof.LastCall.lean ====
/- The last call: pooling, two recurrent layers, scores, loss and logistic values, each piece of its body as the map it is. -/
module

public import proofs.«01_k».proof.Proof.Tail
public import proofs.«01_k».proof.Proof.Regions

@[expose] public section

noncomputable section

open Idealize.ShloMosaic Idealize.ShloMosaic.TcCoe Idealize.SL.Sem
open Idealize.ShloMosaic.Pipeline (Dat)
open Cert.KernelIdeal Cert.KernelIdeal.Gen
open scoped BigOperators

namespace Cert.Net.LastCall

open Cert.Net.Regions (hz)

/-- One step of a recurrent layer as the body spells it. -/
theorem step (x h : FVec Ideal S16x512 .f32) (w u : FVec Ideal S512x512 .f32) (b b' : FVec Ideal S1x512 .f32) :
    tanh (addf (addf (addf (matmul dot_S16x512_S512x512_S16x512_1_0_0_1_n_n none x w (constant (F := Ideal) S16x512 .f32 0x00000000#32))
      (broadcastTo S16x512 b broadcasts_S1x512_S16x512))
      (matmul dot_S16x512_S512x512_S16x512_1_0_0_1_n_n none h u (constant (F := Ideal) S16x512 .f32 0x00000000#32)))
      (broadcastTo S16x512 b' broadcasts_S1x512_S16x512)) = cell x w b h u b' := kerCell x h w u b b' _ _

/-- The zero state. -/
theorem zeros : (broadcast S16x512 (Scalar.ofBits (F := Ideal) .f32 0x00000000#32) : FVec Ideal S16x512 .f32) = fun _ => 0 := by
  funext j; show Ideal.ofBits .f32 0x00000000#32 = _; rw [Ideal.ofBits_zero_f32]

variable (x0 : Vec Ideal S2240x512 .f32) (x1 : Vec Ideal S512x512 .f32) (x2 : Vec Ideal S512x512 .f32) (x3 : Vec Ideal S1x512 .f32)
  (x4 : Vec Ideal S1x512 .f32) (x5 : Vec Ideal S512x512 .f32) (x6 : Vec Ideal S512x512 .f32) (x7 : Vec Ideal S1x512 .f32)
  (x8 : Vec Ideal S1x512 .f32) (x9 : Vec Ideal S512x1 .f32) (x10 : Vec Ideal S1x1 .f32) (x11 : Vec Ideal S1x16 .f32)

/-- The states of the two layers. -/
abbrev g1 : ℕ → Mat 16 512 := hid (steps x0) x1 x3 x2 x4
/-- The hidden states of the second recurrent layer. -/
abbrev g2 : ℕ → Mat 16 512 := hid (g1 x0 x1 x2 x3 x4) x5 x7 x6 x8

/-- The pooled features. -/
theorem pooled : k4_pay2 (F := Ideal) x0 = pool x0 := kerPool x0 _ _ _ _ _ _

/-- The inputs as the body keeps them. -/
theorem q24 : k4_pay24 x0 x1 x2 x3 x4 x5 x6 x7 x8 x9 x10 x11 = pool x0 := by unfold k4_pay24; rw [View.ld_unit_zero hz]; exact pooled x0
/-- Operand 1, loaded whole, is the operand. -/
theorem q25 : k4_pay25 x0 x1 x2 x3 x4 x5 x6 x7 x8 x9 x10 x11 = x1 := by unfold k4_pay25 k4_pay3; rw [View.ld_unit_zero hz]; exact shapeCast_self _ _
/-- Operand 2, loaded whole, is the operand. -/
theorem q26 : k4_pay26 x0 x1 x2 x3 x4 x5 x6 x7 x8 x9 x10 x11 = x2 := by unfold k4_pay26 k4_pay4; rw [View.ld_unit_zero hz]; exact shapeCast_self _ _
/-- Operand 3, loaded whole, is the operand. -/
theorem q27 : k4_pay27 x0 x1 x2 x3 x4 x5 x6 x7 x8 x9 x10 x11 = x3 := by unfold k4_pay27 k4_pay5; rw [View.ld_unit_zero hz]; exact shapeCast_self _ _
/-- Operand 4, loaded whole, is the operand. -/
theorem q28 : k4_pay28 x0 x1 x2 x3 x4 x5 x6 x7 x8 x9 x10 x11 = x4 := by unfold k4_pay28 k4_pay6; rw [View.ld_unit_zero hz]; exact shapeCast_self _ _
/-- Operand 5, loaded whole, is the operand. -/
theorem q29 : k4_pay29 x0 x1 x2 x3 x4 x5 x6 x7 x8 x9 x10 x11 = x5 := by unfold k4_pay29 k4_pay7; rw [View.ld_unit_zero hz]; exact shapeCast_self _ _
/-- Operand 6, loaded whole, is the operand. -/
theorem q30 : k4_pay30 x0 x1 x2 x3 x4 x5 x6 x7 x8 x9 x10 x11 = x6 := by unfold k4_pay30 k4_pay8; rw [View.ld_unit_zero hz]; exact shapeCast_self _ _
/-- Operand 7, loaded whole, is the operand. -/
theorem q31 : k4_pay31 x0 x1 x2 x3 x4 x5 x6 x7 x8 x9 x10 x11 = x7 := by unfold k4_pay31 k4_pay9; rw [View.ld_unit_zero hz]; exact shapeCast_self _ _
/-- Operand 8, loaded whole, is the operand. -/
theorem q32 : k4_pay32 x0 x1 x2 x3 x4 x5 x6 x7 x8 x9 x10 x11 = x8 := by unfold k4_pay32 k4_pay10; rw [View.ld_unit_zero hz]; exact shapeCast_self _ _

/-- The first layer, state by state. -/
theorem q33 : k4_pay33 x0 x1 x2 x3 x4 x5 x6 x7 x8 x9 x10 x11 = (g1 x0 x1 x2 x3 x4 0) := by
  unfold k4_pay33 k4_pay11 k4_pay3 k4_pay4 k4_pay5 k4_pay6
  rw [View.ld_unit_zero hz, View.ld_unit_zero hz, View.ld_unit_zero hz, View.ld_unit_zero hz, View.ld_unit_zero hz]
  simp only [shapeCast_self, pooled, step, zeros, at7_0]
  rfl
/-- The rows of the second step of the sequence. -/
theorem q34 : k4_pay34 x0 x1 x2 x3 x4 x5 x6 x7 x8 x9 x10 x11 = steps x0 1 := by
  unfold k4_pay34 k4_pay12
  rw [View.ld_unit_zero hz, pooled]
  exact at7_1 _ _ _
/-- The first layer's step 1, as the kernel spells it, is its hidden state. -/
theorem c13 : k4_pay13 (F := Ideal) x1 x2 x3 x4 (g1 x0 x1 x2 x3 x4 0) (steps x0 1) (constant (F := Ideal) S16x512 .f32 0x00000000#32) = (g1 x0 x1 x2 x3 x4 1) := by
  unfold k4_pay13
  simp only [step]
  rfl

/-- Step 2, likewise. -/
theorem c14 : k4_pay14 (F := Ideal) (pool x0) x1 x2 x3 x4 (g1 x0 x1 x2 x3 x4 0) (steps x0 1) (constant (F := Ideal) S16x512 .f32 0x00000000#32) = (g1 x0 x1 x2 x3 x4 2) := by
  unfold k4_pay14
  simp only [step, c13, at7_2]
  rfl

/-- Step 3, likewise. -/
theorem c15 : k4_pay15 (F := Ideal) (pool x0) x1 x2 x3 x4 (g1 x0 x1 x2 x3 x4 0) (steps x0 1) (constant (F := Ideal) S16x512 .f32 0x00000000#32) = (g1 x0 x1 x2 x3 x4 3) := by
  unfold k4_pay15
  simp only [step, c14, at7_3]
  rfl

/-- Step 4, likewise. -/
theorem c16 : k4_pay16 (F := Ideal) (pool x0) x1 x2 x3 x4 (g1 x0 x1 x2 x3 x4 0) (steps x0 1) (constant (F := Ideal) S16x512 .f32 0x00000000#32) = (g1 x0 x1 x2 x3 x4 4) := by
  unfold k4_pay16
  simp only [step, c15, at7_4]
  rfl

/-- Step 5, likewise. -/
theorem c17 : k4_pay17 (F := Ideal) (pool x0) x1 x2 x3 x4 (g1 x0 x1 x2 x3 x4 0) (steps x0 1) (constant (F := Ideal) S16x512 .f32 0x00000000#32) = (g1 x0 x1 x2 x3 x4 5) := by
  unfold k4_pay17
  simp only [step, c16, at7_5]
  rfl

/-- The value carried out of the first layer's step 5. -/
theorem q35 : k4_pay35 x0 x1 x2 x3 x4 x5 x6 x7 x8 x9 x10 x11 = (g1 x0 x1 x2 x3 x4 5) := by
  unfold k4_pay35
  rw [q24 x0 x1 x2 x3 x4 x5 x6 x7 x8 x9 x10 x11, q25 x0 x1 x2 x3 x4 x5 x6 x7 x8 x9 x10 x11, q26 x0 x1 x2 x3 x4 x5 x6 x7 x8 x9 x10 x11, q27 x0 x1 x2 x3 x4 x5 x6 x7 x8 x9 x10 x11, q28 x0 x1 x2 x3 x4 x5 x6 x7 x8 x9 x10 x11, q33 x0 x1 x2 x3 x4 x5 x6 x7 x8 x9 x10 x11, q34 x0 x1 x2 x3 x4 x5 x6 x7 x8 x9 x10 x11]
  exact c17 x0 x1 x2 x3 x4
/-- The value carried out of the first layer's step 6. -/
theorem q36 : k4_pay36 x0 x1 x2 x3 x4 x5 x6 x7 x8 x9 x10 x11 = (g1 x0 x1 x2 x3 x4 6) := by
  unfold k4_pay36 k4_pay19 k4_pay18
  rw [q24 x0 x1 x2 x3 x4 x5 x6 x7 x8 x9 x10 x11, q25 x0 x1 x2 x3 x4 x5 x6 x7 x8 x9 x10 x11, q26 x0 x1 x2 x3 x4 x5 x6 x7 x8 x9 x10 x11, q27 x0 x1 x2 x3 x4 x5 x6 x7 x8 x9 x10 x11, q28 x0 x1 x2 x3 x4 x5 x6 x7 x8 x9 x10 x11, q35 x0 x1 x2 x3 x4 x5 x6 x7 x8 x9 x10 x11]
  simp only [step, at7_6]
  rfl

/-- The second layer up to state 4, before and after its last `tanh`. -/
theorem c20 : tanh (F := Ideal) (k4_pay20 x5 x6 x7 x8 (g1 x0 x1 x2 x3 x4 0) (g1 x0 x1 x2 x3 x4 1) (g1 x0 x1 x2 x3 x4 2) (g1 x0 x1 x2 x3 x4 3) (g1 x0 x1 x2 x3 x4 4)) = (g2 x0 x1 x2 x3 x4 x5 x6 x7 x8 4) := by
  unfold k4_pay20
  simp only [step, zeros]
  rfl
/-- The hyperbolic tangent of the carried sum is a hidden state of the second layer. -/
theorem q37 : tanh (F := Ideal) (φ := .f32) (k4_pay37 x0 x1 x2 x3 x4 x5 x6 x7 x8 x9 x10 x11) = (g2 x0 x1 x2 x3 x4 x5 x6 x7 x8 4) := by
  unfold k4_pay37 k4_pay23
  rw [q24 x0 x1 x2 x3 x4 x5 x6 x7 x8 x9 x10 x11, q25 x0 x1 x2 x3 x4 x5 x6 x7 x8 x9 x10 x11, q26 x0 x1 x2 x3 x4 x5 x6 x7 x8 x9 x10 x11, q27 x0 x1 x2 x3 x4 x5 x6 x7 x8 x9 x10 x11, q28 x0 x1 x2 x3 x4 x5 x6 x7 x8 x9 x10 x11, q29 x0 x1 x2 x3 x4 x5 x6 x7 x8 x9 x10 x11, q30 x0 x1 x2 x3 x4 x5 x6 x7 x8 x9 x10 x11, q31 x0 x1 x2 x3 x4 x5 x6 x7 x8 x9 x10 x11, q32 x0 x1 x2 x3 x4 x5 x6 x7 x8 x9 x10 x11, q33 x0 x1 x2 x3 x4 x5 x6 x7 x8 x9 x10 x11, q34 x0 x1 x2 x3 x4 x5 x6 x7 x8 x9 x10 x11, c13, c14, c15, c16]
  exact c20 x0 x1 x2 x3 x4 x5 x6 x7 x8

/-- The scores. -/
theorem q21 : k4_pay21 (k4_pay29 x0 x1 x2 x3 x4 x5 x6 x7 x8 x9 x10 x11) (k4_pay30 x0 x1 x2 x3 x4 x5 x6 x7 x8 x9 x10 x11) (k4_pay31 x0 x1 x2 x3 x4 x5 x6 x7 x8 x9 x10 x11) (k4_pay32 x0 x1 x2 x3 x4 x5 x6 x7 x8 x9 x10 x11) (k4_pay35 x0 x1 x2 x3 x4 x5 x6 x7 x8 x9 x10 x11) (k4_pay36 x0 x1 x2 x3 x4 x5 x6 x7 x8 x9 x10 x11) (k4_pay37 x0 x1 x2 x3 x4 x5 x6 x7 x8 x9 x10 x11) x9 x10
    = score x0 x1 x3 x2 x4 x5 x7 x6 x8 x9 x10 := by
  rw [q29 x0 x1 x2 x3 x4 x5 x6 x7 x8 x9 x10 x11, q30 x0 x1 x2 x3 x4 x5 x6 x7 x8 x9 x10 x11, q31 x0 x1 x2 x3 x4 x5 x6 x7 x8 x9 x10 x11, q32 x0 x1 x2 x3 x4 x5 x6 x7 x8 x9 x10 x11, q35 x0 x1 x2 x3 x4 x5 x6 x7 x8 x9 x10 x11, q36 x0 x1 x2 x3 x4 x5 x6 x7 x8 x9 x10 x11]
  unfold k4_pay21
  simp only [q37, step]
  exact kerLin_d _ x9 x10 _ _ _

/-- The loss the body stores. -/
theorem loss_out : out4_12 x0 x1 x2 x3 x4 x5 x6 x7 x8 x9 x10 x11 = fun _ => loss (score x0 x1 x3 x2 x4 x5 x7 x6 x8 x9 x10) x11 := by
  unfold out4_12
  rw [View.canon_unit_zero hz, View.ld_unit_zero hz, View.ld_unit_zero hz, View.ld_unit_zero hz]
  unfold k4_pay22
  rw [q21]
  exact kerLoss _ x11 _ _ _ _ _ _ _ _

/-- The logistic values it stores. -/
theorem logistic_out : out4_13 x0 x1 x2 x3 x4 x5 x6 x7 x8 x9 x10 x11 = logistic (F := Ideal) (φ := .f32) (score x0 x1 x3 x2 x4 x5 x7 x6 x8 x9 x10) := by
  unfold out4_13
  rw [View.canon_unit_zero hz, View.ld_unit_zero hz, View.ld_unit_zero hz]
  unfold k4_pay1
  rw [q21]

/-! ## What the call leaves in its result arrays -/

variable (V : (c : Dev nD) → (b : Ref sig .tc) → Buf (Elt Ideal) ((c : Thread nD τ).loc b))

/-- Every window is on its whole array. -/
theorem i0 (c : Dev nD) (t : Fin cfg4.N) : iblk4 V c 0 t = V c main_v208 := by
  funext i
  show V c main_v208 ((win4_0.blk t).view.emb i) = V c main_v208 i
  refine congrArg (V c main_v208) (funext fun a => Fin.ext ?_)
  show 0 * win4_0.size a + 1 * (i a).val = (i a).val
  omega
/-- Window 1's block is its whole array. -/
theorem i1 (c : Dev nD) (t : Fin cfg4.N) : iblk4 V c 1 t = V c main_v211 := by
  funext i
  show V c main_v211 ((win4_1.blk t).view.emb i) = V c main_v211 i
  refine congrArg (V c main_v211) (funext fun a => Fin.ext ?_)
  show 0 * win4_1.size a + 1 * (i a).val = (i a).val
  omega
/-- Window 2's block is its whole array. -/
theorem i2 (c : Dev nD) (t : Fin cfg4.N) : iblk4 V c 2 t = V c main_v214 := by
  funext i
  show V c main_v214 ((win4_2.blk t).view.emb i) = V c main_v214 i
  refine congrArg (V c main_v214) (funext fun a => Fin.ext ?_)
  show 0 * win4_2.size a + 1 * (i a).val = (i a).val
  omega
/-- Window 3's block is its whole array. -/
theorem i3 (c : Dev nD) (t : Fin cfg4.N) : iblk4 V c 3 t = V c main_v217 := by
  funext i
  show V c main_v217 ((win4_3.blk t).view.emb i) = V c main_v217 i
  refine congrArg (V c main_v217) (funext fun a => Fin.ext ?_)
  show 0 * win4_3.size a + 1 * (i a).val = (i a).val
  omega
/-- Window 4's block is its whole array. -/
theorem i4 (c : Dev nD) (t : Fin cfg4.N) : iblk4 V c 4 t = V c main_v220 := by
  funext i
  show V c main_v220 ((win4_4.blk t).view.emb i) = V c main_v220 i
  refine congrArg (V c main_v220) (funext fun a => Fin.ext ?_)
  show 0 * win4_4.size a + 1 * (i a).val = (i a).val
  omega
/-- Window 5's block is its whole array. -/
theorem i5 (c : Dev nD) (t : Fin cfg4.N) : iblk4 V c 5 t = V c main_v223 := by
  funext i
  show V c main_v223 ((win4_5.blk t).view.emb i) = V c main_v223 i
  refine congrArg (V c main_v223) (funext fun a => Fin.ext ?_)
  show 0 * win4_5.size a + 1 * (i a).val = (i a).val
  omega
/-- Window 6's block is its whole array. -/
theorem i6 (c : Dev nD) (t : Fin cfg4.N) : iblk4 V c 6 t = V c main_v226 := by
  funext i
  show V c main_v226 ((win4_6.blk t).view.emb i) = V c main_v226 i
  refine congrArg (V c main_v226) (funext fun a => Fin.ext ?_)
  show 0 * win4_6.size a + 1 * (i a).val = (i a).val
  omega
/-- Window 7's block is its whole array. -/
theorem i7 (c : Dev nD) (t : Fin cfg4.N) : iblk4 V c 7 t = V c main_v229 := by
  funext i
  show V c main_v229 ((win4_7.blk t).view.emb i) = V c main_v229 i
  refine congrArg (V c main_v229) (funext fun a => Fin.ext ?_)
  show 0 * win4_7.size a + 1 * (i a).val = (i a).val
  omega
/-- Window 8's block is its whole array. -/
theorem i8 (c : Dev nD) (t : Fin cfg4.N) : iblk4 V c 8 t = V c main_v232 := by
  funext i
  show V c main_v232 ((win4_8.blk t).view.emb i) = V c main_v232 i
  refine congrArg (V c main_v232) (funext fun a => Fin.ext ?_)
  show 0 * win4_8.size a + 1 * (i a).val = (i a).val
  omega
/-- Window 9's block is its whole array. -/
theorem i9 (c : Dev nD) (t : Fin cfg4.N) : iblk4 V c 9 t = V c main_v233 := by
  funext i
  show V c main_v233 ((win4_9.blk t).view.emb i) = V c main_v233 i
  refine congrArg (V c main_v233) (funext fun a => Fin.ext ?_)
  show 0 * win4_9.size a + 1 * (i a).val = (i a).val
  omega
/-- Window 10's block is its whole array. -/
theorem i10 (c : Dev nD) (t : Fin cfg4.N) : iblk4 V c 10 t = V c main_v234 := by
  funext i
  show V c main_v234 ((win4_10.blk t).view.emb i) = V c main_v234 i
  refine congrArg (V c main_v234) (funext fun a => Fin.ext ?_)
  show 0 * win4_10.size a + 1 * (i a).val = (i a).val
  omega
/-- Window 11's block is its whole array. -/
theorem i11 (c : Dev nD) (t : Fin cfg4.N) : iblk4 V c 11 t = V c main_v235 := by
  funext i
  show V c main_v235 ((win4_11.blk t).view.emb i) = V c main_v235 i
  refine congrArg (V c main_v235) (funext fun a => Fin.ext ?_)
  show 0 * win4_11.size a + 1 * (i a).val = (i a).val
  omega

/-- The value result 0 ends at. -/
abbrev res12 (c : Dev nD) : Mat 1 1 := fun _ => loss (score (V c main_v208) (V c main_v211) (V c main_v217) (V c main_v214) (V c main_v220) (V c main_v223) (V c main_v229) (V c main_v226) (V c main_v232) (V c main_v233) (V c main_v234)) (V c main_v235)

/-- What the call writes back of the loss. -/
theorem flushed12 (c : Dev nD) (t : Fin cfg4.N) :
    (dat4 (F := Ideal) V c).flushed 12 t = (win4_12.blk t).view.read (Elt Ideal) (res12 V c) := by
  show (cfg4.win 12).cut (grid4.coords t) ((dat4 V c).after 12 t) = _
  rw [after4_12, loss_out, i0, i1, i2, i3, i4, i5, i6, i7, i8, i9, i10, i11]
  funext i
  show res12 V c ((cfg4.win 12).xinj (grid4.coords t) i) = res12 V c ((win4_12.blk t).view.emb i)
  refine congrArg (res12 V c) (funext fun a => Fin.ext ?_)
  show (i a).val = 0 * win4_12.size a + 1 * (i a).val
  omega

/-- The loss's array after the call. -/
theorem final12 (c : Dev nD) : (dat4 (F := Ideal) V c).arrAt 12 cfg4.N = res12 V c := by
  refine (dat4 V c).arrAt_eq_of_cover 12 (res12 V c) (fun t _ => flushed12 V c t) (fun i => ⟨t4_0, flush4_12 _, ?_⟩)
  show i ∈ ((View.whole main_v236_0).slice (win4_12.rect t4_0)).set
  rw [View.set_slice_whole, Rect.mem_set_unit]
  intro a
  refine ⟨?_, ?_⟩
  · show 0 * win4_12.size a ≤ (i a).val; omega
  · show (i a).val < 0 * win4_12.size a + _
    have := (i a).isLt
    have : (i a).val < win4_12.size a := this
    show (i a).val < 0 * win4_12.size a + win4_12.size a
    omega

/-- The value result 1 ends at. -/
abbrev res13 (c : Dev nD) : Mat 16 1 := logistic (F := Ideal) (φ := .f32) (score (V c main_v208) (V c main_v211) (V c main_v217) (V c main_v214) (V c main_v220) (V c main_v223) (V c main_v229) (V c main_v226) (V c main_v232) (V c main_v233) (V c main_v234))

/-- What the call writes back of the probabilities. -/
theorem flushed13 (c : Dev nD) (t : Fin cfg4.N) :
    (dat4 (F := Ideal) V c).flushed 13 t = (win4_13.blk t).view.read (Elt Ideal) (res13 V c) := by
  show (cfg4.win 13).cut (grid4.coords t) ((dat4 V c).after 13 t) = _
  rw [after4_13, logistic_out, i0, i1, i2, i3, i4, i5, i6, i7, i8, i9, i10]
  funext i
  show res13 V c ((cfg4.win 13).xinj (grid4.coords t) i) = res13 V c ((win4_13.blk t).view.emb i)
  refine congrArg (res13 V c) (funext fun a => Fin.ext ?_)
  show (i a).val = 0 * win4_13.size a + 1 * (i a).val
  omega

/-- The probabilities' array after the call. -/
theorem final13 (c : Dev nD) : (dat4 (F := Ideal) V c).arrAt 13 cfg4.N = res13 V c := by
  refine (dat4 V c).arrAt_eq_of_cover 13 (res13 V c) (fun t _ => flushed13 V c t) (fun i => ⟨t4_0, flush4_13 _, ?_⟩)
  show i ∈ ((View.whole main_v236_1).slice (win4_13.rect t4_0)).set
  rw [View.set_slice_whole, Rect.mem_set_unit]
  intro a
  refine ⟨?_, ?_⟩
  · show 0 * win4_13.size a ≤ (i a).val; omega
  · show (i a).val < 0 * win4_13.size a + _
    have := (i a).isLt
    have : (i a).val < win4_13.size a := this
    show (i a).val < 0 * win4_13.size a + win4_13.size a
    omega

end Cert.Net.LastCall
-- ==== Proof.Chain.lean ====
/- The kernel's buffers, stage by stage, are the reference's values. -/
module

public import proofs.«01_k».proof.Proof.Host
public import proofs.«01_k».proof.Proof.LastCall

@[expose] public section

set_option maxHeartbeats 1000000

noncomputable section

open Idealize.ShloMosaic Idealize.ShloMosaic.TcCoe Idealize.SL.Sem
open Cert.KernelIdeal Cert.KernelIdeal.Gen
open Cert.ReferenceIdeal.Read
open scoped BigOperators

namespace Cert.Net.Chain

open Cert.Net.Ref (meanWW meanWT meanTT meanWD meanTD wordsW wordsB)

/-! ## One call: rows padded, mapped by a transposed weight and a bias row, the padding cut off -/

/-- The words' call of layer 1: the kernel's rows, padded, mapped and cut back, are the linear layer of the rows. -/
theorem call_a {x : FVec Ideal (M2 24000 256) .f32} {W : Mat 512 256} {b : Row 512} {z : FVec Ideal (⟨0, ![]⟩ : Shape) .f32}
    {P : FVec Ideal (M2 24576 256) .f32} {T : Mat 256 512} {B : Mat 1 512} {R : FVec Ideal (M2 24576 512) .f32} {Y : Mat 24000 512}
    {hp : (M2 24000 256).Pads ![0, 0] ![576, 0] ![0, 0] (M2 24576 256)} {hz : 0 < (⟨0, ![]⟩ : Shape).numel} {hs : (M2 24576 512).Slices ![0, 0] (M2 24000 512)}
    (hY : Y = extractStridedSlice (M2 24000 512) ![0, 0] R hs) (hR : R = linT P T B)
    (hP : P = pad (M2 24576 256) ![0, 0] ![576, 0] ![0, 0] x z hp hz) (hT : T = tr W) (hB : B = asRow b) : Y = lin x W b := by
  subst hY hR hP hT hB
  exact (padLin_a x (tr W) (asRow b) z hp hz hs).trans (linT_tr x W b)

/-- The topics' call of layer 1, likewise. -/
theorem call_b {x : FVec Ideal (M2 5600 512) .f32} {W : Mat 512 512} {b : Row 512} {z : FVec Ideal (⟨0, ![]⟩ : Shape) .f32}
    {P : FVec Ideal (M2 6144 512) .f32} {T : Mat 512 512} {B : Mat 1 512} {R : FVec Ideal (M2 6144 512) .f32} {Y : Mat 5600 512}
    {hp : (M2 5600 512).Pads ![0, 0] ![544, 0] ![0, 0] (M2 6144 512)} {hz : 0 < (⟨0, ![]⟩ : Shape).numel} {hs : (M2 6144 512).Slices ![0, 0] (M2 5600 512)}
    (hY : Y = extractStridedSlice (M2 5600 512) ![0, 0] R hs) (hR : R = linT P T B)
    (hP : P = pad (M2 6144 512) ![0, 0] ![544, 0] ![0, 0] x z hp hz) (hT : T = tr W) (hB : B = asRow b) : Y = lin x W b := by
  subst hY hR hP hT hB
  exact (padLin_b x (tr W) (asRow b) z hp hz hs).trans (linT_tr x W b)

/-- The words' call of layer 2, likewise, of the rows with their negative entries zeroed. -/
theorem call_c {x : FVec Ideal (M2 24000 512) .f32} {W : Mat 512 512} {b : Row 512} {z : FVec Ideal (⟨0, ![]⟩ : Shape) .f32}
    {P : FVec Ideal (M2 24576 512) .f32} {T : Mat 512 512} {B : Mat 1 512} {R : FVec Ideal (M2 24576 512) .f32} {Y : Mat 24000 512}
    {hp : (M2 24000 512).Pads ![0, 0] ![576, 0] ![0, 0] (M2 24576 512)} {hz : 0 < (⟨0, ![]⟩ : Shape).numel} {hs : (M2 24576 512).Slices ![0, 0] (M2 24000 512)}
    (hY : Y = extractStridedSlice (M2 24000 512) ![0, 0] R hs) (hR : R = linT (relu P) T B)
    (hP : P = pad (M2 24576 512) ![0, 0] ![576, 0] ![0, 0] x z hp hz) (hT : T = tr W) (hB : B = asRow b) : Y = lin (relu x) W b := by
  subst hY hR hP hT hB
  exact (padLin_c x (tr W) (asRow b) z hp hz hs).trans (linT_tr (relu x) W b)

/-- The topics' call of layer 2, likewise. -/
theorem call_d {x : FVec Ideal (M2 5600 512) .f32} {W : Mat 512 512} {b : Row 512} {z : FVec Ideal (⟨0, ![]⟩ : Shape) .f32}
    {P : FVec Ideal (M2 6144 512) .f32} {T : Mat 512 512} {B : Mat 1 512} {R : FVec Ideal (M2 6144 512) .f32} {Y : Mat 5600 512}
    {hp : (M2 5600 512).Pads ![0, 0] ![544, 0] ![0, 0] (M2 6144 512)} {hz : 0 < (⟨0, ![]⟩ : Shape).numel} {hs : (M2 6144 512).Slices ![0, 0] (M2 5600 512)}
    (hY : Y = extractStridedSlice (M2 5600 512) ![0, 0] R hs) (hR : R = linT (relu P) T B)
    (hP : P = pad (M2 6144 512) ![0, 0] ![544, 0] ![0, 0] x z hp hz) (hT : T = tr W) (hB : B = asRow b) : Y = lin (relu x) W b := by
  subst hY hR hP hT hB
  exact (padLin_d x (tr W) (asRow b) z hp hz hs).trans (linT_tr (relu x) W b)

variable (m : (ℓ : Loc nD τ sig) → Buf (Elt Ideal) ℓ) (ρ : Dev nD → PrngReg) (c : Dev nD)

/-- The arguments. -/
abbrev A0 : (⟨ReferenceIdeal.S24000, .i32⟩ : BufTy).Contents (Elt Ideal) := m ((c : Thread nD τ).loc main_arg0)
/-- Argument 1. -/
abbrev A1 : (⟨ReferenceIdeal.S5600, .i32⟩ : BufTy).Contents (Elt Ideal) := m ((c : Thread nD τ).loc main_arg1)
/-- Argument 2. -/
abbrev A2 : (⟨ReferenceIdeal.S2240, .i32⟩ : BufTy).Contents (Elt Ideal) := m ((c : Thread nD τ).loc main_arg2)
/-- Argument 3. -/
abbrev A3 : (⟨ReferenceIdeal.S96000, .i32⟩ : BufTy).Contents (Elt Ideal) := m ((c : Thread nD τ).loc main_arg3)
/-- Argument 4. -/
abbrev A4 : (⟨ReferenceIdeal.S96000, .i32⟩ : BufTy).Contents (Elt Ideal) := m ((c : Thread nD τ).loc main_arg4)
/-- Argument 5. -/
abbrev A5 : (⟨ReferenceIdeal.S48000, .i32⟩ : BufTy).Contents (Elt Ideal) := m ((c : Thread nD τ).loc main_arg5)
/-- Argument 6. -/
abbrev A6 : (⟨ReferenceIdeal.S48000, .i32⟩ : BufTy).Contents (Elt Ideal) := m ((c : Thread nD τ).loc main_arg6)
/-- Argument 7. -/
abbrev A7 : (⟨ReferenceIdeal.S48000, .i32⟩ : BufTy).Contents (Elt Ideal) := m ((c : Thread nD τ).loc main_arg7)
/-- Argument 8. -/
abbrev A8 : (⟨ReferenceIdeal.S48000, .i32⟩ : BufTy).Contents (Elt Ideal) := m ((c : Thread nD τ).loc main_arg8)
/-- Argument 9. -/
abbrev A9 : (⟨ReferenceIdeal.S24000, .i32⟩ : BufTy).Contents (Elt Ideal) := m ((c : Thread nD τ).loc main_arg9)
/-- Argument 10. -/
abbrev A10 : (⟨ReferenceIdeal.S24000, .i32⟩ : BufTy).Contents (Elt Ideal) := m ((c : Thread nD τ).loc main_arg10)
/-- Argument 11. -/
abbrev A11 : (⟨ReferenceIdeal.S24000, .i32⟩ : BufTy).Contents (Elt Ideal) := m ((c : Thread nD τ).loc main_arg11)
/-- Argument 12. -/
abbrev A12 : (⟨ReferenceIdeal.S24000, .i32⟩ : BufTy).Contents (Elt Ideal) := m ((c : Thread nD τ).loc main_arg12)
/-- Argument 13. -/
abbrev A13 : (⟨ReferenceIdeal.S96000, .f32⟩ : BufTy).Contents (Elt Ideal) := m ((c : Thread nD τ).loc main_arg13)
/-- Argument 14. -/
abbrev A14 : (⟨ReferenceIdeal.S48000, .f32⟩ : BufTy).Contents (Elt Ideal) := m ((c : Thread nD τ).loc main_arg14)
/-- Argument 15. -/
abbrev A15 : (⟨ReferenceIdeal.S48000, .f32⟩ : BufTy).Contents (Elt Ideal) := m ((c : Thread nD τ).loc main_arg15)
/-- Argument 16. -/
abbrev A16 : (⟨ReferenceIdeal.S24000, .f32⟩ : BufTy).Contents (Elt Ideal) := m ((c : Thread nD τ).loc main_arg16)
/-- Argument 17. -/
abbrev A17 : (⟨ReferenceIdeal.S24000, .f32⟩ : BufTy).Contents (Elt Ideal) := m ((c : Thread nD τ).loc main_arg17)
/-- Argument 18. -/
abbrev A18 : (⟨ReferenceIdeal.S15000x256, .f32⟩ : BufTy).Contents (Elt Ideal) := m ((c : Thread nD τ).loc main_arg18)
/-- Argument 19. -/
abbrev A19 : (⟨ReferenceIdeal.S50x512, .f32⟩ : BufTy).Contents (Elt Ideal) := m ((c : Thread nD τ).loc main_arg19)
/-- Argument 20. -/
abbrev A20 : (⟨ReferenceIdeal.S512x256, .f32⟩ : BufTy).Contents (Elt Ideal) := m ((c : Thread nD τ).loc main_arg20)
/-- Argument 21. -/
abbrev A21 : (⟨ReferenceIdeal.S512, .f32⟩ : BufTy).Contents (Elt Ideal) := m ((c : Thread nD τ).loc main_arg21)
/-- Argument 22. -/
abbrev A22 : (⟨ReferenceIdeal.S2x5x512x512, .f32⟩ : BufTy).Contents (Elt Ideal) := m ((c : Thread nD τ).loc main_arg22)
/-- Argument 23. -/
abbrev A23 : (⟨ReferenceIdeal.S2x5x512, .f32⟩ : BufTy).Contents (Elt Ideal) := m ((c : Thread nD τ).loc main_arg23)
/-- Argument 24. -/
abbrev A24 : (⟨ReferenceIdeal.S2x512x512, .f32⟩ : BufTy).Contents (Elt Ideal) := m ((c : Thread nD τ).loc main_arg24)
/-- Argument 25. -/
abbrev A25 : (⟨ReferenceIdeal.S2x512x512, .f32⟩ : BufTy).Contents (Elt Ideal) := m ((c : Thread nD τ).loc main_arg25)
/-- Argument 26. -/
abbrev A26 : (⟨ReferenceIdeal.S2x512, .f32⟩ : BufTy).Contents (Elt Ideal) := m ((c : Thread nD τ).loc main_arg26)
/-- Argument 27. -/
abbrev A27 : (⟨ReferenceIdeal.S2x512, .f32⟩ : BufTy).Contents (Elt Ideal) := m ((c : Thread nD τ).loc main_arg27)
/-- Argument 28. -/
abbrev A28 : (⟨ReferenceIdeal.S1x512, .f32⟩ : BufTy).Contents (Elt Ideal) := m ((c : Thread nD τ).loc main_arg28)
/-- Argument 29. -/
abbrev A29 : (⟨ReferenceIdeal.S1, .f32⟩ : BufTy).Contents (Elt Ideal) := m ((c : Thread nD τ).loc main_arg29)
/-- Argument 30. -/
abbrev A30 : (⟨ReferenceIdeal.S16, .f32⟩ : BufTy).Contents (Elt Ideal) := m ((c : Thread nD τ).loc main_arg30)

/-- The arguments the finiteness of the reference's layers needs are finite. -/
structure Finite : Prop where
  h13 : Reals (A13 m c)
  h14 : Reals (A14 m c)
  h17 : Reals (A17 m c)
  h18 : Reals (A18 m c)
  h19 : Reals (A19 m c)
  h20 : Reals (A20 m c)
  h21 : Reals (A21 m c)
  h22 : Reals (A22 m c)
  h23 : ∀ e, Reals (bs (A23 m c) 0 e)

/-! ## The composed weights and biases -/

/-- The words' weight. -/
theorem s75 : W1 m ρ c (Proc.devRef .tc main_v75) = tr (wordsW (wt (A22 m c) 0 0) (wt (A22 m c) 0 1) (wt (A22 m c) 0 2) (A20 m c)) :=
  (Host.h75 (W0 m ρ c)).trans (by rw [W0_args m ρ c main_arg22 (by decide +kernel), W0_args m ρ c main_arg20 (by decide +kernel)])

/-- The words' bias. -/
theorem s23 : W1 m ρ c (Proc.devRef .tc main_v23) = wordsB (wt (A22 m c) 0 0) (wt (A22 m c) 0 1) (wt (A22 m c) 0 2) (bs (A23 m c) 0 0) (bs (A23 m c) 0 1) (bs (A23 m c) 0 2) (A21 m c) :=
  (Host.h23 (W0 m ρ c)).trans (by rw [W0_args m ρ c main_arg22 (by decide +kernel), W0_args m ρ c main_arg23 (by decide +kernel), W0_args m ρ c main_arg21 (by decide +kernel)])

/-- The topics' weight. -/
theorem s32 : W1 m ρ c (Proc.devRef .tc main_v32) = compW (wt (A22 m c) 0 4) (wt (A22 m c) 0 3) :=
  (Host.h32 (W0 m ρ c)).trans (by rw [W0_args m ρ c main_arg22 (by decide +kernel)])

/-- The topics' bias. -/
theorem s35 : W1 m ρ c (Proc.devRef .tc main_v35) = compB (wt (A22 m c) 0 4) (bs (A23 m c) 0 4) (bs (A23 m c) 0 3) :=
  (Host.h35 (W0 m ρ c)).trans (by rw [W0_args m ρ c main_arg22 (by decide +kernel), W0_args m ρ c main_arg23 (by decide +kernel)])

/-- The words' second weight. -/
theorem s52 : W1 m ρ c (Proc.devRef .tc main_v52) = compW (wt (A22 m c) 1 2) (compW (wt (A22 m c) 1 1) (wt (A22 m c) 1 0)) :=
  (Host.h52 (W0 m ρ c)).trans (by rw [W0_args m ρ c main_arg22 (by decide +kernel)])

/-- The words' second bias. -/
theorem s55 : W1 m ρ c (Proc.devRef .tc main_v55) = compB (wt (A22 m c) 1 2) (bs (A23 m c) 1 2) (compB (wt (A22 m c) 1 1) (bs (A23 m c) 1 1) (bs (A23 m c) 1 0)) :=
  (Host.h55 (W0 m ρ c)).trans (by rw [W0_args m ρ c main_arg22 (by decide +kernel), W0_args m ρ c main_arg23 (by decide +kernel)])

/-- The topics' second weight. -/
theorem s64 : W1 m ρ c (Proc.devRef .tc main_v64) = compW (wt (A22 m c) 1 4) (wt (A22 m c) 1 3) :=
  (Host.h64 (W0 m ρ c)).trans (by rw [W0_args m ρ c main_arg22 (by decide +kernel)])

/-- The topics' second bias. -/
theorem s67 : W1 m ρ c (Proc.devRef .tc main_v67) = compB (wt (A22 m c) 1 4) (bs (A23 m c) 1 4) (bs (A23 m c) 1 3) :=
  (Host.h67 (W0 m ρ c)).trans (by rw [W0_args m ρ c main_arg22 (by decide +kernel), W0_args m ρ c main_arg23 (by decide +kernel)])

/-- The words' looked-up features. -/
theorem s74 : W1 m ρ c (Proc.devRef .tc main_v74) = (val_main_v6 (F := Ideal) (A0 m c) (A18 m c)) :=
  (Host.h74 (W0 m ρ c)).trans (by rw [W0_args m ρ c main_arg0 (by decide +kernel), W0_args m ρ c main_arg18 (by decide +kernel)])

/-- The topics' looked-up features. -/
theorem s86 : W5 m ρ c (Proc.devRef .tc main_v86) = (val_main_v18 (F := Ideal) (A1 m c) (A19 m c)) :=
  (Host.h86 (W4 m ρ c)).trans (by rw [W4_args m ρ c main_arg1 (by decide +kernel), W4_args m ρ c main_arg19 (by decide +kernel)])

variable (h : Finite m c)
include h

/-! ## The layers -/

/-- The words after the first layer. -/
theorem s79 : W5 m ρ c (Proc.devRef .tc main_v79) = (val_main_v49 (F := Ideal) (A0 m c) (A18 m c) (A20 m c) (A21 m c) (A22 m c) (A23 m c)) := by
  obtain ⟨z, hz⟩ := Host.h76 (W1 m ρ c)
  rw [s74 m ρ c] at hz
  refine (call_a (Host.h79 (W4 m ρ c)) ((W4_arr m ρ c 3).trans (Regions.final0 (V3 m ρ) c))
    ((W3_of m ρ c main_v76 (by decide +kernel)).trans hz) (((W3_of m ρ c main_v75 (by decide +kernel)).trans (W2_of m ρ c main_v75 (by decide +kernel))).trans (s75 m ρ c)) ((Host.h77 (W2 m ρ c)).trans (congrArg asRow ((W2_of m ρ c main_v23 (by decide +kernel)).trans (s23 m ρ c))))).trans ?_
  exact (Ref.c49 _ _ _ _ _ _ h.h18 h.h20 h.h22).symm

/-- The topics after the first layer. -/
theorem s91 : W9 m ρ c (Proc.devRef .tc main_v91) = (val_main_v67 (F := Ideal) (A1 m c) (A19 m c) (A22 m c) (A23 m c)) := by
  obtain ⟨z, hz⟩ := Host.h88 (W5 m ρ c)
  rw [s86 m ρ c] at hz
  refine (call_b (Host.h91 (W8 m ρ c)) ((W8_arr m ρ c 3).trans (Regions.final1 (V7 m ρ) c))
    ((W7_of m ρ c main_v88 (by decide +kernel)).trans hz) (((W7_of m ρ c main_v87 (by decide +kernel)).trans (W6_of m ρ c main_v87 (by decide +kernel))).trans ((Host.h87 (W4 m ρ c)).trans (congrArg tr (((W4_of m ρ c main_v32 (by decide +kernel)).trans ((W3_of m ρ c main_v32 (by decide +kernel)).trans (W2_of m ρ c main_v32 (by decide +kernel)))).trans (s32 m ρ c))))) ((Host.h89 (W6 m ρ c)).trans (congrArg asRow (((W6_of m ρ c main_v35 (by decide +kernel)).trans ((W5_of m ρ c main_v35 (by decide +kernel)).trans ((W4_of m ρ c main_v35 (by decide +kernel)).trans ((W3_of m ρ c main_v35 (by decide +kernel)).trans (W2_of m ρ c main_v35 (by decide +kernel)))))).trans (s35 m ρ c))))).trans ?_
  exact (Ref.c67 _ _ _ _ h.h19 h.h22).symm

/-- The words' means over their words. -/
theorem s112 : W9 m ρ c (Proc.devRef .tc main_v112) = (val_main_v88 (F := Ideal) (A0 m c) (A3 m c) (A4 m c) (A13 m c) (A18 m c) (A20 m c) (A21 m c) (A22 m c) (A23 m c)) :=
  (Host.h112 (W8 m ρ c)).trans (by
    rw [((W8_of m ρ c main_v79 (by decide +kernel)).trans ((W7_of m ρ c main_v79 (by decide +kernel)).trans (W6_of m ρ c main_v79 (by decide +kernel)))), s79 m ρ c h, W8_args m ρ c main_arg3 (by decide +kernel), W8_args m ρ c main_arg4 (by decide +kernel), W8_args m ρ c main_arg13 (by decide +kernel)]
    exact (Ref.a88 _ _ _ _ _ _ _ _ _).symm)

/-- The topics' means, added. -/
theorem s155 : W9 m ρ c (Proc.devRef .tc main_v155) = (val_main_v131 (F := Ideal) (A0 m c) (A1 m c) (A5 m c) (A6 m c) (A11 m c) (A12 m c) (A14 m c) (A17 m c) (A18 m c) (A19 m c) (A20 m c) (A21 m c) (A22 m c) (A23 m c)) :=
  (Host.h155 (W8 m ρ c)).trans (by
    rw [← Host.h91 (W8 m ρ c), show StableHlo.after hostOps2 (W8 m ρ c) (Proc.devRef .tc main_v91) = _ from s91 m ρ c h, ((W8_of m ρ c main_v79 (by decide +kernel)).trans ((W7_of m ρ c main_v79 (by decide +kernel)).trans (W6_of m ρ c main_v79 (by decide +kernel)))), s79 m ρ c h, W8_args m ρ c main_arg5 (by decide +kernel), W8_args m ρ c main_arg6 (by decide +kernel), W8_args m ρ c main_arg14 (by decide +kernel), W8_args m ρ c main_arg11 (by decide +kernel), W8_args m ρ c main_arg12 (by decide +kernel), W8_args m ρ c main_arg17 (by decide +kernel)]
    exact (Ref.a131 _ _ _ _ _ _ _ _ _ _ _ _ _ _).symm)

/-- The words after the second layer. -/
theorem s160 : W13 m ρ c (Proc.devRef .tc main_v160) = (val_main_v166 (F := Ideal) (A0 m c) (A3 m c) (A4 m c) (A13 m c) (A18 m c) (A20 m c) (A21 m c) (A22 m c) (A23 m c)) := by
  obtain ⟨z, hz⟩ := Host.h157 (W9 m ρ c)
  rw [s112 m ρ c h] at hz
  refine (call_c (Host.h160 (W12 m ρ c)) ((W12_arr m ρ c 3).trans (Regions.final2 (V11 m ρ) c))
    ((W11_of m ρ c main_v157 (by decide +kernel)).trans hz) (((W11_of m ρ c main_v156 (by decide +kernel)).trans (W10_of m ρ c main_v156 (by decide +kernel))).trans ((Host.h156 (W8 m ρ c)).trans (congrArg tr (((W8_of m ρ c main_v52 (by decide +kernel)).trans ((W7_of m ρ c main_v52 (by decide +kernel)).trans ((W6_of m ρ c main_v52 (by decide +kernel)).trans ((W5_of m ρ c main_v52 (by decide +kernel)).trans ((W4_of m ρ c main_v52 (by decide +kernel)).trans ((W3_of m ρ c main_v52 (by decide +kernel)).trans (W2_of m ρ c main_v52 (by decide +kernel)))))))).trans (s52 m ρ c))))) ((Host.h158 (W10 m ρ c)).trans (congrArg asRow (((W10_of m ρ c main_v55 (by decide +kernel)).trans ((W9_of m ρ c main_v55 (by decide +kernel)).trans ((W8_of m ρ c main_v55 (by decide +kernel)).trans ((W7_of m ρ c main_v55 (by decide +kernel)).trans ((W6_of m ρ c main_v55 (by decide +kernel)).trans ((W5_of m ρ c main_v55 (by decide +kernel)).trans ((W4_of m ρ c main_v55 (by decide +kernel)).trans ((W3_of m ρ c main_v55 (by decide +kernel)).trans (W2_of m ρ c main_v55 (by decide +kernel)))))))))).trans (s55 m ρ c))))).trans ?_
  exact (Ref.c166 _ _ _ _ _ _ _ _ _ h.h13 h.h18 h.h20 h.h21 h.h22 h.h23).symm

/-- The topics after the second layer. -/
theorem s165 : W17 m ρ c (Proc.devRef .tc main_v165) = (val_main_v184 (F := Ideal) (A0 m c) (A1 m c) (A5 m c) (A6 m c) (A11 m c) (A12 m c) (A14 m c) (A17 m c) (A18 m c) (A19 m c) (A20 m c) (A21 m c) (A22 m c) (A23 m c)) := by
  obtain ⟨z, hz⟩ := Host.h162 (W13 m ρ c)
  rw [((W13_of m ρ c main_v155 (by decide +kernel)).trans ((W12_of m ρ c main_v155 (by decide +kernel)).trans ((W11_of m ρ c main_v155 (by decide +kernel)).trans (W10_of m ρ c main_v155 (by decide +kernel))))), s155 m ρ c h] at hz
  refine (call_d (Host.h165 (W16 m ρ c)) ((W16_arr m ρ c 3).trans (Regions.final3 (V15 m ρ) c))
    ((W15_of m ρ c main_v162 (by decide +kernel)).trans hz) (((W15_of m ρ c main_v161 (by decide +kernel)).trans (W14_of m ρ c main_v161 (by decide +kernel))).trans ((Host.h161 (W12 m ρ c)).trans (congrArg tr (((W12_of m ρ c main_v64 (by decide +kernel)).trans ((W11_of m ρ c main_v64 (by decide +kernel)).trans ((W10_of m ρ c main_v64 (by decide +kernel)).trans ((W9_of m ρ c main_v64 (by decide +kernel)).trans ((W8_of m ρ c main_v64 (by decide +kernel)).trans ((W7_of m ρ c main_v64 (by decide +kernel)).trans ((W6_of m ρ c main_v64 (by decide +kernel)).trans ((W5_of m ρ c main_v64 (by decide +kernel)).trans ((W4_of m ρ c main_v64 (by decide +kernel)).trans ((W3_of m ρ c main_v64 (by decide +kernel)).trans (W2_of m ρ c main_v64 (by decide +kernel)))))))))))).trans (s64 m ρ c))))) ((Host.h163 (W14 m ρ c)).trans (congrArg asRow (((W14_of m ρ c main_v67 (by decide +kernel)).trans ((W13_of m ρ c main_v67 (by decide +kernel)).trans ((W12_of m ρ c main_v67 (by decide +kernel)).trans ((W11_of m ρ c main_v67 (by decide +kernel)).trans ((W10_of m ρ c main_v67 (by decide +kernel)).trans ((W9_of m ρ c main_v67 (by decide +kernel)).trans ((W8_of m ρ c main_v67 (by decide +kernel)).trans ((W7_of m ρ c main_v67 (by decide +kernel)).trans ((W6_of m ρ c main_v67 (by decide +kernel)).trans ((W5_of m ρ c main_v67 (by decide +kernel)).trans ((W4_of m ρ c main_v67 (by decide +kernel)).trans ((W3_of m ρ c main_v67 (by decide +kernel)).trans (W2_of m ρ c main_v67 (by decide +kernel)))))))))))))).trans (s67 m ρ c))))).trans ?_
  exact (Ref.c184 _ _ _ _ _ _ _ _ _ _ _ _ _ _ h.h14 h.h17 h.h18 h.h19 h.h20 h.h21 h.h22 h.h23).symm

/-- The documents' means, added. -/
theorem s208 : W17 m ρ c (Proc.devRef .tc main_v208) = (val_main_v227 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c)) :=
  (Host.h208 (W16 m ρ c)).trans (by
    rw [← Host.h165 (W16 m ρ c), show StableHlo.after hostOps4 (W16 m ρ c) (Proc.devRef .tc main_v165) = _ from s165 m ρ c h, ((W16_of m ρ c main_v160 (by decide +kernel)).trans ((W15_of m ρ c main_v160 (by decide +kernel)).trans (W14_of m ρ c main_v160 (by decide +kernel)))), s160 m ρ c h, W16_args m ρ c main_arg7 (by decide +kernel), W16_args m ρ c main_arg8 (by decide +kernel), W16_args m ρ c main_arg15 (by decide +kernel), W16_args m ρ c main_arg9 (by decide +kernel), W16_args m ρ c main_arg10 (by decide +kernel), W16_args m ρ c main_arg16 (by decide +kernel)]
    exact (Ref.a227 _ _ _ _ _ _ _ _ _ _ _ _ _ _ _ _ _ _ _ _ _ _ _).symm)

/-! ## The results -/

/-- The scores. -/
theorem sScore : score (W17 m ρ c (Proc.devRef .tc main_v208)) (W17 m ρ c (Proc.devRef .tc main_v211)) (W17 m ρ c (Proc.devRef .tc main_v217)) (W17 m ρ c (Proc.devRef .tc main_v214)) (W17 m ρ c (Proc.devRef .tc main_v220)) (W17 m ρ c (Proc.devRef .tc main_v223)) (W17 m ρ c (Proc.devRef .tc main_v229)) (W17 m ρ c (Proc.devRef .tc main_v226)) (W17 m ρ c (Proc.devRef .tc main_v232)) (W17 m ρ c (Proc.devRef .tc main_v233)) (W17 m ρ c (Proc.devRef .tc main_v234)) = (score (val_main_v227 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c)) (tr (rw3 (A24 m c) 0)) (asRow (rb2 (A26 m c) 0)) (tr (rw3 (A25 m c) 0)) (asRow (rb2 (A27 m c) 0)) (tr (rw3 (A24 m c) 1)) (asRow (rb2 (A26 m c) 1)) (tr (rw3 (A25 m c) 1)) (asRow (rb2 (A27 m c) 1)) (tr (A28 m c)) (asRow (A29 m c))) := by
  rw [s208 m ρ c h, show W17 m ρ c (Proc.devRef .tc main_v211) = _ from Host.h211 (W16 m ρ c), show W17 m ρ c (Proc.devRef .tc main_v217) = _ from Host.h217 (W16 m ρ c), show W17 m ρ c (Proc.devRef .tc main_v214) = _ from Host.h214 (W16 m ρ c), show W17 m ρ c (Proc.devRef .tc main_v220) = _ from Host.h220 (W16 m ρ c), show W17 m ρ c (Proc.devRef .tc main_v223) = _ from Host.h223 (W16 m ρ c), show W17 m ρ c (Proc.devRef .tc main_v229) = _ from Host.h229 (W16 m ρ c), show W17 m ρ c (Proc.devRef .tc main_v226) = _ from Host.h226 (W16 m ρ c), show W17 m ρ c (Proc.devRef .tc main_v232) = _ from Host.h232 (W16 m ρ c), show W17 m ρ c (Proc.devRef .tc main_v233) = _ from Host.h233 (W16 m ρ c), show W17 m ρ c (Proc.devRef .tc main_v234) = _ from Host.h234 (W16 m ρ c),
    W16_args m ρ c main_arg24 (by decide +kernel), W16_args m ρ c main_arg26 (by decide +kernel), W16_args m ρ c main_arg25 (by decide +kernel), W16_args m ρ c main_arg27 (by decide +kernel), W16_args m ρ c main_arg28 (by decide +kernel), W16_args m ρ c main_arg29 (by decide +kernel)]

/-- The ids give twenty documents, one after another, to every graph. -/
abbrev Ids : Prop := ∀ k : Fin 2240, (A2 m c) (ix1 k) = BitVec.ofNat 32 (k.val / 20)

/-- The loss. -/
theorem s237 (hi : Ids m c) : W19 m ρ c (Proc.devRef .tc main_v237) = (val_main_v457 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c) (A30 m c)) := by
  refine (Host.h237 (W18 m ρ c)).trans ?_
  rw [show W18 m ρ c (Proc.devRef .tc main_v236_0) = LastCall.res12 (V17 m ρ) c from (W18_arr m ρ c 12).trans (LastCall.final12 (V17 m ρ) c)]
  refine Eq.trans ?_ (Ref.r457 _ _ _ _ _ _ _ _ _ _ _ _ _ _ _ _ _ _ _ _ _ _ _ _ _ _ _ _ _ _ _ hi).symm
  have e : asRow (A30 m c) = W17 m ρ c (Proc.devRef .tc main_v235) := ((Host.h235 (W16 m ρ c)).trans (by rw [W16_args m ρ c main_arg30 (by decide +kernel)])).symm
  rw [e, ← sScore m ρ c h]
  rfl

/-- The logistic values. -/
theorem s238 (hi : Ids m c) : W19 m ρ c (Proc.devRef .tc main_v238) = (val_main_v463 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c)) := by
  refine (Host.h238 (W18 m ρ c)).trans ?_
  rw [show W18 m ρ c (Proc.devRef .tc main_v236_1) = LastCall.res13 (V17 m ρ) c from (W18_arr m ρ c 13).trans (LastCall.final13 (V17 m ρ) c)]
  refine Eq.trans ?_ (Ref.r463 _ _ _ _ _ _ _ _ _ _ _ _ _ _ _ _ _ _ _ _ _ _ _ _ _ _ _ _ _ _ hi).symm
  rw [← sScore m ρ c h]
  exact kerSigmoid _ _

end Cert.Net.Chain
-- ==== Proof.Pre.lean ====
/- What the precondition says of the kernel's arguments: eight of them and the first layer's biases are finite, and the
   documents of a graph stand together, twenty to a graph. -/
module

public import proofs.«01_k».proof.Defs
public import proofs.«01_k».proof.Proof.Chain

@[expose] public section

noncomputable section

open Idealize.ShloMosaic Idealize.ShloMosaic.TcCoe Idealize.SL.Sem
open Cert.KernelIdeal

namespace Cert.Net.Pre

/-- The shape relations the precondition's operations take. -/
theorem facts : Cert.Pre_pre.Facts where
  slices_S2x5x512_S1x5x512_0_0_0 := by decide
  bcast_S_S96000 := by decide
  bcast_S_S48000 := by decide
  bcast_S_S24000 := by decide
  bcast_S_S15000x256 := by decide
  bcast_S_S50x512 := by decide
  bcast_S_S512x256 := by decide
  bcast_S_S512 := by decide
  bcast_S_S2x5x512x512 := by decide
  bcast_S_S1x5x512 := by decide
  bcast_S_S2240 := by decide

/-- The bit pattern of positive infinity reads as the top of the extended reals. -/
theorem infinity : Ideal.ofBits .f32 0x7F800000#32 = ⊤ := by simp [Ideal.ofBits, Ideal.ieee]

/-- A value whose absolute value is below infinity is real. -/
theorem real_of_abs_lt {x : EReal} (h : max x (-x) < ⊤) : ∃ r : ℝ, x = (r : EReal) := by
  induction x with
  | bot => simp at h
  | top => simp at h
  | coe r => exact ⟨r, rfl⟩

/-- The comparison "less than" answers one exactly where the left value is below the right. -/
theorem lt_of_cmp {x y : EReal} (h : Ideal.cmp .olt x y = 1#1) : x < y := by
  by_contra hn
  simp [Ideal.cmp, hn] at h

/-- An array whose absolute values all compare below infinity is an array of reals. -/
theorem reals_of_abs {s t : Shape} (x : FVec Ideal s .f32) (d : Fin t.rank → Fin s.rank) (hb : t.BroadcastsInDim s d)
    (h : cmpf .olt (Host.absf x) (broadcastInDim s d hb (constant t .f32 0x7F800000#32)) = (fun _ => 1#1)) : Reals x := by
  intro i
  have hi : Ideal.cmp .olt (max (x i : EReal) (-(x i : EReal))) (Ideal.ofBits .f32 0x7F800000#32) = 1#1 := congrFun h i
  rw [infinity] at hi
  exact real_of_abs_lt (lt_of_cmp hi)

/-- If the first layer's cut of the biases is real, so is each of its biases. -/
theorem reals_bs (b : FVec Ideal (⟨3, ![2, 5, 512]⟩ : Shape) .f32) (h : (⟨3, ![2, 5, 512]⟩ : Shape).Slices ![0, 0, 0] ⟨3, ![1, 5, 512]⟩)
    (hr : Reals (extractStridedSlice ⟨3, ![1, 5, 512]⟩ ![0, 0, 0] b h)) (e : Fin 5) : Reals (bs b 0 e) := by
  intro j
  have hj : bs b 0 e j = extractStridedSlice ⟨3, ![1, 5, 512]⟩ ![0, 0, 0] b h (ix3 0 e (j 0)) := by
    unfold bs; pointwise
  rw [hj]
  exact hr _

/-- A number below 2240 divided by twenty as a signed 32-bit integer is the quotient. -/
theorem div_twenty (k : Fin 2240) : IntOp.divsi .host (BitVec.ofNat 32 k.val) 20#32 = BitVec.ofNat 32 (k.val / 20) := by
  have hk := k.isLt
  have hx : (BitVec.ofNat 32 k.val).msb = false := by rw [BitVec.msb_eq_false_iff_two_mul_lt, BitVec.toNat_ofNat]; omega
  have hy : (20#32 : BitVec 32).msb = false := by decide
  have hc : ¬ IntOp.SDivCorner (BitVec.ofNat 32 k.val) 20#32 := by
    unfold IntOp.SDivCorner
    rintro (h | ⟨-, h⟩) <;> exact absurd h (by decide)
  unfold IntOp.divsi
  rw [if_neg hc, BitVec.sdiv_eq, hx, hy]
  apply BitVec.eq_of_toNat_eq
  simp only [BitVec.udiv_eq, BitVec.toNat_udiv, BitVec.toNat_ofNat]
  rw [Nat.mod_eq_of_lt (show k.val < 2 ^ 32 by omega), Nat.mod_eq_of_lt (show k.val / 20 < 2 ^ 32 by omega),
    Nat.mod_eq_of_lt (show 20 < 2 ^ 32 by omega)]

variable {m : (ℓ : Loc nD τ sig) → Buf (Elt Ideal) ℓ}

/-- Under the precondition the edge weights of layer 1, the embeddings, the weights of the graph layers and the first
    layer's biases are finite. -/
theorem finite (h : Cert.Pre_KernelIdeal_pre (hPre_pre := facts) m) (c : Dev nD) : Chain.Finite m c where
  h13 := reals_of_abs _ _ _ (h c).2.1
  h14 := reals_of_abs _ _ _ (h c).2.2.1
  h17 := reals_of_abs _ _ _ (h c).2.2.2.1
  h18 := reals_of_abs _ _ _ (h c).2.2.2.2.1
  h19 := reals_of_abs _ _ _ (h c).2.2.2.2.2.1
  h20 := reals_of_abs _ _ _ (h c).2.2.2.2.2.2.1
  h21 := reals_of_abs _ _ _ (h c).2.2.2.2.2.2.2.1
  h22 := reals_of_abs _ _ _ (h c).2.2.2.2.2.2.2.2.1
  h23 := reals_bs _ _ (reals_of_abs _ _ _ (h c).2.2.2.2.2.2.2.2.2)

/-- Under the precondition document `k` belongs to graph `k / 20`. -/
theorem ids (h : Cert.Pre_KernelIdeal_pre (hPre_pre := facts) m) (c : Dev nD) : Chain.Ids m c := by
  intro k
  have hk : IntOp.cmpi .eq (Chain.A2 m c (ix1 k)) (IntOp.divsi .host (BitVec.ofNat 32 k.val) 20#32) = 1#1 := congrFun (h c).1 (ix1 k)
  rw [div_twenty] at hk
  by_contra hn
  have hb : (Chain.A2 m c (ix1 k) == BitVec.ofNat 32 (k.val / 20)) = false := beq_eq_false_iff_ne.mpr hn
  rw [show IntOp.cmpi .eq (Chain.A2 m c (ix1 k)) (BitVec.ofNat 32 (k.val / 20))
    = BitVec.ofBool (Chain.A2 m c (ix1 k) == BitVec.ofNat 32 (k.val / 20)) from rfl, hb] at hk
  exact absurd hk (by decide)

end Cert.Net.Pre

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Pre
public import Idealize.ShloMosaic.Adequacy
public import Idealize.ShloMosaic.Init

@[expose] public section

set_option maxRecDepth 8000

noncomputable section

namespace Cert.Proof

open Idealize.ShloMosaic Idealize.SL.Sem

/-- The reference runs, leaves its arguments as launched and every semaphore counter at zero. -/
theorem reference_quiescent : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Under the precondition the kernel's two results are the reference's. -/
theorem values : Cert.algebraic_KernelIdeal_ReferenceIdeal_pre_pre (hKernelIdeal := Cert.KernelIdeal.Gen.facts)
    (hReferenceIdeal := Cert.ReferenceIdeal.Gen.facts) (hPre_pre := Cert.Net.Pre.facts) := by
  intro m g m' g' hpre hargs
  refine ⟨fun c => Cert.KernelIdeal.Gen.W19 m g c (Proc.devRef .tc Cert.KernelIdeal.main_v237),
    fun c => Cert.KernelIdeal.Gen.W19 m g c (Proc.devRef .tc Cert.KernelIdeal.main_v238), Cert.Net.Run.results m g, ?_⟩
  refine (θ_run Cert.ReferenceIdeal.defs _ _).mono (fun r h c => ?_) (Cert.ReferenceIdeal.Value.run (F := Ideal) m' g')
  obtain ⟨e0, e1, e2, e3, e4, e5, e6, e7, e8, e9, e10, e11, e12, e13, e14, e15, e16, e17, e18, e19, e20, e21, e22, e23, e24, e25, e26, e27, e28, e29, e30⟩ := hargs c
  refine ⟨?_, ?_, (h c).2.2⟩
  · refine ((h c).1.trans (Cert.ReferenceIdeal.Read.val_main_v457_eq (StableHlo.launchContents m' c))).trans ?_
    refine Eq.trans ?_ (Cert.Net.Chain.s237 m g c (Cert.Net.Pre.finite hpre c) (Cert.Net.Pre.ids hpre c)).symm
    exact (by
      show Cert.ReferenceIdeal.Read.val_main_v457 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) = _
      rw [e0, e1, e2, e3, e4, e5, e6, e7, e8, e9, e10, e11, e12, e13, e14, e15, e16, e17, e18, e19, e20, e21, e22, e23, e24, e25, e26, e27, e28, e29, e30])
  · refine ((h c).2.1.trans (Cert.ReferenceIdeal.Read.val_main_v463_eq (StableHlo.launchContents m' c))).trans ?_
    refine Eq.trans ?_ (Cert.Net.Chain.s238 m g c (Cert.Net.Pre.finite hpre c) (Cert.Net.Pre.ids hpre c)).symm
    exact (by
      show Cert.ReferenceIdeal.Read.val_main_v463 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) = _
      rw [e0, e1, e2, e3, e4, e5, e6, e7, e8, e9, e10, e11, e12, e13, e14, e15, e16, e17, e18, e19, e20, e21, e22, e23, e24, e25, e26, e27, e28, e29])

/-- Everything claimed. -/
theorem claim : Cert.Claim :=
  ⟨Cert.Kernel.Gen.facts, Cert.KernelIdeal.Gen.facts, Cert.ReferenceIdeal.Gen.facts, Cert.Net.Pre.facts,
    fun m ρ _ => Cert.Kernel.Gen.frame m ρ, fun m ρ _ => Cert.KernelIdeal.Gen.frame m ρ, fun m ρ _ => Cert.KernelIdeal.Gen.frame m ρ,
    reference_quiescent, fun m ρ _ => reference_quiescent m ρ trivial, trivial, values⟩

end Cert.Proof

end
